-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x11392 : Shape := ⟨3, ![8, 1024, 11392]⟩
abbrev S8x1024x89 : Shape := ⟨3, ![8, 1024, 89]⟩
abbrev S3584x11392 : Shape := ⟨2, ![3584, 11392]⟩
abbrev S28x89 : Shape := ⟨2, ![28, 89]⟩
abbrev S8192x11392 : Shape := ⟨2, ![8192, 11392]⟩
abbrev S8192x89 : Shape := ⟨2, ![8192, 89]⟩
abbrev S8192x1792 : Shape := ⟨2, ![8192, 1792]⟩
abbrev S8192x14 : Shape := ⟨2, ![8192, 14]⟩
abbrev S1024x11392 : Shape := ⟨2, ![1024, 11392]⟩
abbrev S1024x89 : Shape := ⟨2, ![1024, 89]⟩
abbrev S256x11392 : Shape := ⟨2, ![256, 11392]⟩
abbrev S1024x256 : Shape := ⟨2, ![1024, 256]⟩
abbrev S1024x14 : Shape := ⟨2, ![1024, 14]⟩
abbrev S1024x512 : Shape := ⟨2, ![1024, 512]⟩
abbrev S1024x128 : Shape := ⟨2, ![1024, 128]⟩
abbrev S1024x1 : Shape := ⟨2, ![1024, 1]⟩
abbrev S1x1 : Shape := ⟨2, ![1, 1]⟩
abbrev S128x128 : Shape := ⟨2, ![128, 128]⟩
abbrev S256x128 : Shape := ⟨2, ![256, 128]⟩
abbrev S256x256 : Shape := ⟨2, ![256, 256]⟩
abbrev S128 : Shape := ⟨1, ![128]⟩
abbrev S128x1 : Shape := ⟨2, ![128, 1]⟩
abbrev S128x14 : Shape := ⟨2, ![128, 14]⟩

abbrev nBuf : Space → Nat
  | .hbm => 8
  | .vmem => 13
  | .smem => 1
  | _ => 0

abbrev bufTy : (tb : Table) → Fin (tcTables nBuf tb) → BufTy
  | .hbm, ⟨0, _⟩ => ⟨S8x1024x11392, .fp8e4m3⟩
  | .hbm, ⟨1, _⟩ => ⟨S8x1024x89, .f32⟩
  | .hbm, ⟨2, _⟩ => ⟨S3584x11392, .fp8e4m3⟩
  | .hbm, ⟨3, _⟩ => ⟨S28x89, .f32⟩
  | .hbm, ⟨4, _⟩ => ⟨S8192x11392, .fp8e4m3⟩
  | .hbm, ⟨5, _⟩ => ⟨S8192x89, .f32⟩
  | .hbm, ⟨6, _⟩ => ⟨S8192x1792, .fp8e4m3⟩
  | .hbm, ⟨7, _⟩ => ⟨S8192x14, .f32⟩
  | .local _ .vmem, ⟨0, _⟩ => ⟨S1024x11392, .fp8e4m3⟩
  | .local _ .vmem, ⟨1, _⟩ => ⟨S1024x89, .f32⟩
  | .local _ .vmem, ⟨2, _⟩ => ⟨S1024x89, .f32⟩
  | .local _ .vmem, ⟨3, _⟩ => ⟨S256x11392, .fp8e4m3⟩
  | .local _ .vmem, ⟨4, _⟩ => ⟨S256x11392, .fp8e4m3⟩
  | .local _ .vmem, ⟨5, _⟩ => ⟨S256x11392, .fp8e4m3⟩
  | .local _ .vmem, ⟨6, _⟩ => ⟨S256x11392, .fp8e4m3⟩
  | .local _ .vmem, ⟨7, _⟩ => ⟨S1024x256, .fp8e4m3⟩
  | .local _ .vmem, ⟨8, _⟩ => ⟨S1024x256, .fp8e4m3⟩
  | .local _ .vmem, ⟨9, _⟩ => ⟨S1024x14, .f32⟩
  | .local _ .vmem, ⟨10, _⟩ => ⟨S1024x14, .f32⟩
  | .local _ .vmem, ⟨11, _⟩ => ⟨S1024x11392, .bf16⟩
  | .local _ .vmem, ⟨12, _⟩ => ⟨S1024x512, .f32⟩
  | .local _ .smem, ⟨0, _⟩ => ⟨S28x89, .f32⟩
  | _, _ => ⟨S8x1024x11392, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 7], ![false, false]⟩

@[reducible] def k0_t1_loop : Scf.Loop 32 :=
  let c0_i32_2 : BitVec 32 := 0#32
  let c44_i32 : BitVec 32 := 44#32
  let v7 : BitVec 32 := Scalar.addi c0_i32_2 c44_i32
  let c1_i32 : BitVec 32 := 1#32
  ⟨c0_i32_2, v7, c1_i32⟩
def k0_mult1 (k0_t1 : Fin k0_t1_loop.trips) : BitVec 32 :=
  let c2_i32_479 : BitVec 32 := 2#32
  let c0_i32_478 : BitVec 32 := 0#32
  let c0_i32_2 : BitVec 32 := 0#32
  let c1_i32 : BitVec 32 := 1#32
  let arg11 : BitVec 32 := Scf.iv c0_i32_2 c1_i32 k0_t1
  let c1_i32_477 : BitVec 32 := 1#32
  let v1347 : BitVec 32 := Scalar.muli arg11 c1_i32_477
  let v1348 : BitVec 32 := Scalar.addi c0_i32_478 v1347
  let v1349 : BitVec 32 := Scalar.muli c2_i32_479 v1348
  let c128_i32 : BitVec 32 := 128#32
  let v1350 : BitVec 32 := Scalar.muli v1349 c128_i32
  v1350
def k0_off1 (k0_t1 : Fin k0_t1_loop.trips) : Fin 2 → Nat :=
  let c0_480 : Index := 0#32
  let c2_i32_479 : BitVec 32 := 2#32
  let c0_i32_478 : BitVec 32 := 0#32
  let c0_i32_2 : BitVec 32 := 0#32
  let c1_i32 : BitVec 32 := 1#32
  let arg11 : BitVec 32 := Scf.iv c0_i32_2 c1_i32 k0_t1
  let c1_i32_477 : BitVec 32 := 1#32
  let v1347 : BitVec 32 := Scalar.muli arg11 c1_i32_477
  let v1348 : BitVec 32 := Scalar.addi c0_i32_478 v1347
  let v1349 : BitVec 32 := Scalar.muli c2_i32_479 v1348
  let c128_i32 : BitVec 32 := 128#32
  let v1350 : BitVec 32 := Scalar.muli v1349 c128_i32
  let v1351 : BitVec 32 := v1350
  let v1352 : Index := Scalar.indexCast v1351
  ![0, v1352.toNat]
def k0_off2 (i : grid0.Coords) (k0_t1 : Fin k0_t1_loop.trips) (c0_i32_482 : BitVec 32) (c0_i32_485 : BitVec 32) (c0_i32_483 : BitVec 32) : Fin 2 → Nat :=
  let arg1 : BitVec 32 := BitVec.ofNat 32 (i 1).val
  let c2_i32_481 : BitVec 32 := 2#32
  let v1354 : BitVec 32 := Scalar.muli arg1 c2_i32_481
  let v1355 : BitVec 32 := Scalar.addi c0_i32_482 v1354
  let v1358 : BitVec 32 := Scalar.addi v1355 c0_i32_485
  let v1359 : Index := Scalar.indexCast v1358
  let c2_i32_479 : BitVec 32 := 2#32
  let c0_i32_478 : BitVec 32 := 0#32
  let c0_i32_2 : BitVec 32 := 0#32
  let c1_i32 : BitVec 32 := 1#32
  let arg11 : BitVec 32 := Scf.iv c0_i32_2 c1_i32 k0_t1
  let c1_i32_477 : BitVec 32 := 1#32
  let v1347 : BitVec 32 := Scalar.muli arg11 c1_i32_477
  let v1348 : BitVec 32 := Scalar.addi c0_i32_478 v1347
  let v1349 : BitVec 32 := Scalar.muli c2_i32_479 v1348
  let v1356 : BitVec 32 := Scalar.addi v1349 c0_i32_483
  let v1360 : Index := Scalar.indexCast v1356
  ![v1359.toNat, v1360.toNat]
def k0_off3 (k0_t1 : Fin k0_t1_loop.trips) (c0_i32_484 : BitVec 32) : Fin 2 → Nat :=
  let c0_486 : Index := 0#32
  let c2_i32_479 : BitVec 32 := 2#32
  let c0_i32_478 : BitVec 32 := 0#32
  let c0_i32_2 : BitVec 32 := 0#32
  let c1_i32 : BitVec 32 := 1#32
  let arg11 : BitVec 32 := Scf.iv c0_i32_2 c1_i32 k0_t1
  let c1_i32_477 : BitVec 32 := 1#32
  let v1347 : BitVec 32 := Scalar.muli arg11 c1_i32_477
  let v1348 : BitVec 32 := Scalar.addi c0_i32_478 v1347
  let v1349 : BitVec 32 := Scalar.muli c2_i32_479 v1348
  let c128_i32 : BitVec 32 := 128#32
  let v1350 : BitVec 32 := Scalar.muli v1349 c128_i32
  let v1351 : BitVec 32 := v1350
  let v1357 : BitVec 32 := Scalar.addi v1351 c0_i32_484
  let v1363 : Index := Scalar.indexCast v1357
  ![0, v1363.toNat]
def k0_off4 (k0_t1 : Fin k0_t1_loop.trips) (c0_i32_484 : BitVec 32) : Fin 2 → Nat :=
  let c128_488 : Index := 128#32
  let c2_i32_479 : BitVec 32 := 2#32
  let c0_i32_478 : BitVec 32 := 0#32
  let c0_i32_2 : BitVec 32 := 0#32
  let c1_i32 : BitVec 32 := 1#32
  let arg11 : BitVec 32 := Scf.iv c0_i32_2 c1_i32 k0_t1
  let c1_i32_477 : BitVec 32 := 1#32
  let v1347 : BitVec 32 := Scalar.muli arg11 c1_i32_477
  let v1348 : BitVec 32 := Scalar.addi c0_i32_478 v1347
  let v1349 : BitVec 32 := Scalar.muli c2_i32_479 v1348
  let c128_i32 : BitVec 32 := 128#32
  let v1350 : BitVec 32 := Scalar.muli v1349 c128_i32
  let v1351 : BitVec 32 := v1350
  let v1357 : BitVec 32 := Scalar.addi v1351 c0_i32_484
  let v1373 : Index := Scalar.indexCast v1357
  ![128, v1373.toNat]
def k0_mult2 : BitVec 32 :=
  let c11264_i32 : BitVec 32 := 11264#32
  c11264_i32
def k0_off5 (i : grid0.Coords) (c0_i32_5 : BitVec 32) (c0_i32_7 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi c0_i32_5 v11
  let v14 : BitVec 32 := Scalar.addi v12 c0_i32_7
  let v15 : Index := Scalar.indexCast v14
  let c88 : Index := 88#32
  ![v15.toNat, 88]
def k0_off6 : Fin 2 → Nat :=
  let c0_8 : Index := 0#32
  let c11264_i32 : BitVec 32 := 11264#32
  let v8 : BitVec 32 := c11264_i32
  let c0_i32_6 : BitVec 32 := 0#32
  let v13 : BitVec 32 := Scalar.addi v8 c0_i32_6
  let v18 : Index := Scalar.indexCast v13
  ![0, v18.toNat]
def k0_off7 : Fin 2 → Nat :=
  let c128 : Index := 128#32
  let c11264_i32 : BitVec 32 := 11264#32
  let v8 : BitVec 32 := c11264_i32
  let c0_i32_6 : BitVec 32 := 0#32
  let v13 : BitVec 32 := Scalar.addi v8 c0_i32_6
  let v27 : Index := Scalar.indexCast v13
  ![128, v27.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S28x89 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x11392 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x89 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x11392 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x11392 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x1024x11392 : Shape := ⟨3, ![8, 1024, 11392]⟩
abbrev S8x1024x89 : Shape := ⟨3, ![8, 1024, 89]⟩
abbrev S3584x11392 : Shape := ⟨2, ![3584, 11392]⟩
abbrev S28x89 : Shape := ⟨2, ![28, 89]⟩
abbrev S8192x1792 : Shape := ⟨2, ![8192, 1792]⟩
abbrev S8192x14 : Shape := ⟨2, ![8192, 14]⟩
abbrev S8x1024x89x128 : Shape := ⟨4, ![8, 1024, 89, 128]⟩
abbrev S8x1024x89x1 : Shape := ⟨4, ![8, 1024, 89, 1]⟩
abbrev S28x128x89x128 : Shape := ⟨4, ![28, 128, 89, 128]⟩
abbrev S28x1x89x1 : Shape := ⟨4, ![28, 1, 89, 1]⟩
abbrev S8x1024x3584 : Shape := ⟨3, ![8, 1024, 3584]⟩
abbrev S8x1024x1792 : Shape := ⟨3, ![8, 1024, 1792]⟩
abbrev S8192x14x128 : Shape := ⟨3, ![8192, 14, 128]⟩
abbrev S8192x14x1 : Shape := ⟨3, ![8192, 14, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x1024x11392, .fp8e4m3⟩
  | .hbm, ⟨1, _⟩ => ⟨S8x1024x89, .f32⟩
  | .hbm, ⟨2, _⟩ => ⟨S3584x11392, .fp8e4m3⟩
  | .hbm, ⟨3, _⟩ => ⟨S28x89, .f32⟩
  | .hbm, ⟨4, _⟩ => ⟨S8192x1792, .fp8e4m3⟩
  | .hbm, ⟨5, _⟩ => ⟨S8192x14, .f32⟩
  | .local _ .vmem, ⟨0, _⟩ => ⟨S8x1024x11392, .fp8e4m3⟩
  | .local _ .vmem, ⟨1, _⟩ => ⟨S8x1024x89, .f32⟩
  | .local _ .vmem, ⟨2, _⟩ => ⟨S3584x11392, .fp8e4m3⟩
  | .local _ .vmem, ⟨3, _⟩ => ⟨S28x89, .f32⟩
  | .local _ .vmem, ⟨4, _⟩ => ⟨S8192x1792, .fp8e4m3⟩
  | .local _ .vmem, ⟨5, _⟩ => ⟨S8192x14, .f32⟩
  | _, _ => ⟨S8x1024x11392, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1024x11392 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x89 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x11392 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x89 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelKit.lean ====
/- What the run of the kernel's body is stated over: the guard of the body's one conditional, the staging and scratch
   buffers as the pipeline passes them, and the frame claim's postcondition read off a run with relational data. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 0 rfl).trans ((hA c 0).trans (V_main_arg3 m c))⟩) h

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (t : Fin cfg0.N) : Memref sig .tc .smem S28x89 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x11392 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x89 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x11392 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x11392 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x14 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x11392 .bf16 := Memref.whole cc0_scratch0
abbrev scM0_1 : Memref sig .tc .vmem S1024x512 .f32 := Memref.whole cc0_scratch1
/-- The scratch `arg9` the kernel carries between points, as a view: what it holds is stated through it. -/
abbrev VS0_0 : View sig .tc .vmem S1024x11392 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
/- The run of the kernel's whole body at the points that first fill the scratch, for its frame: what it leaves in the scratch it carries, and
   nothing of what it leaves in its outputs. -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3100000 in
/-- What the body's stores leave in each output's staging memref, as pieces (last first) IN CASE A (`scf.if` 0 taken: points 0, 7, … 49: 8 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6) at anything, handed back at some contents nothing names. -/
noncomputable def kernelRun0_A (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : cond0_0 i)
    (x0 : Vec F S28x89 .f32) (x1 : Vec F S1024x11392 .fp8e4m3) (x2 : Vec F S1024x89 .f32) (x3 : Vec F S256x11392 .fp8e4m3) (x4 : Vec F S256x11392 .fp8e4m3) :
    { LS0 : List (View.Piece (Elt F) S1024x11392 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    simp only [k0_part61_eq_skeleton, k0_part30_eq_skeleton, k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [HS0]; · iexists _; iexact HS0
    iexists _, _; isplitr; swap; · iexact HS1
    ipureintro; rfl

end Cert.Kernel.Gen

end
-- ==== Proof.KernelRunB.lean ====
/- The run of the kernel's whole body at every other point, for its frame: what it leaves in the scratch it carries, and
   nothing of what it leaves in its outputs. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1104000 in
/-- What the body's stores leave in each output's staging memref, as pieces (last first) IN CASE B (`scf.if` 0 not taken: points 1, 2, … 55: 48 of 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6) at anything, handed back at some contents nothing names. -/
noncomputable def kernelRun0_B (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : ¬cond0_0 i)
    (x0 : Vec F S28x89 .f32) (x1 : Vec F S1024x11392 .fp8e4m3) (x2 : Vec F S1024x89 .f32) (x3 : Vec F S256x11392 .fp8e4m3) (x4 : Vec F S256x11392 .fp8e4m3) (xs0 : Vec F S1024x11392 .bf16) :
    { LS0 : List (View.Piece (Elt F) S1024x11392 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨[], fun E K => ?run⟩
  case run =>
    simp only [cc0__body_eq_skeleton]; unfold cc0__body_skel
    simp only [k0_part61_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg9.read_unread _
      iexact HS0
    iexists _, _; isplitr; swap; · iexact HS1
    ipureintro; rfl

end Cert.Kernel.Gen

end
-- ==== Proof.KernelFrame.lean ====
/- The frame of the kernel as it runs, its floats words: from any memory it terminates with its argument arrays as they
   were and every semaphore counter at zero. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 89 pieces of `S1024x128` tiling it (Lib/Ring.lean `Piece.tiledL`). -/
theorem scover0_A_0 (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : cond0_0 i)
    (x0 : Vec F S28x89 .f32) (x1 : Vec F S1024x11392 .fp8e4m3) (x2 : Vec F S1024x89 .f32) (x3 : Vec F S256x11392 .fp8e4m3) (x4 : Vec F S256x11392 .fp8e4m3) (y : S1024x11392.Idx) :
    ∃ pc ∈ (kernelRun0_A c i arg2 harg2 arg3 harg3 arg4 harg4 arg5 harg5 arg6 harg6 arg7 harg7 arg8 harg8 arg9 harg9 arg10 harg10 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4).1 S1024x128.size (by sl_kernel_rfl) y

/-- What case A leaves in scratch `arg9`: its pieces read back over junk. -/
def sout0_A_0 (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : cond0_0 i)
    (x0 : Vec F S28x89 .f32) (x1 : Vec F S1024x11392 .fp8e4m3) (x2 : Vec F S1024x89 .f32) (x3 : Vec F S256x11392 .fp8e4m3) (x4 : Vec F S256x11392 .fp8e4m3) : Vec F S1024x11392 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4).1)

/-- Case B stores nothing into scratch `arg9`: it holds what the point before left. -/
def sout0_B_0 (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : ¬cond0_0 i)
    (x0 : Vec F S28x89 .f32) (x1 : Vec F S1024x11392 .fp8e4m3) (x2 : Vec F S1024x89 .f32) (x3 : Vec F S256x11392 .fp8e4m3) (x4 : Vec F S256x11392 .fp8e4m3) (xs0 : Vec F S1024x11392 .bf16) : Vec F S1024x11392 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x11392 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 7 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 7 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 7 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (5, 6): nothing reads what the kernel leaves in them, so nothing
    of it is named (Lib/Pipeline/Dat.lean `Dat.toRForget`). -/
def forgets0 : Fin 7 → Bool := fun w => w.val == 5 || w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 56 := lt_of_lt_of_eq t.isLt (show cfg0.N = 56 from N_0)
  by_cases h0 : t.val % 7 = 0
  · by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      isplitl [HS1]; · iexact HS1
      iintro ⟨H0, H1, H2, H3, H4, H5, H6, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; have hN : t.val < 56 := lt_of_lt_of_eq t.isLt (show cfg0.N = 56 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 56 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Kit.lean ====
/- What the run of the kernel's body is stated over: the guard of the body's one conditional, the staging and scratch
   buffers as the pipeline passes them, and the frame claim's postcondition read off a run with relational data. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 0 rfl).trans ((hA c 0).trans (V_main_arg3 m c))⟩) h

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (t : Fin cfg0.N) : Memref sig .tc .smem S28x89 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x11392 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x89 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x11392 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x11392 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x14 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x11392 .bf16 := Memref.whole cc0_scratch0
abbrev scM0_1 : Memref sig .tc .vmem S1024x512 .f32 := Memref.whole cc0_scratch1
/-- The scratch `arg9` the kernel carries between points, as a view: what it holds is stated through it. -/
abbrev VS0_0 : View sig .tc .vmem S1024x11392 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Acc.lean ====
/- The accumulator of one grid point: what the loop over the contraction and the last, narrower step leave in it, as a
   sum over the contracted positions. Everything here is about values; no program runs. -/
module

public import proofs.«01_k».proof.Proof.Kit
public import Idealize.ShloMosaic.Lib.Pointwise
public import Idealize.ShloMosaic.Lib.VecWindow
public import Idealize.ShloMosaic.Lib.Pipeline.ValueKit

@[expose] public section

set_option maxRecDepth 16384

noncomputable section

namespace Cert.KernelIdeal.Gen

open Idealize.ShloMosaic Idealize.ShloMosaic.Tactic

/-- An entry of a matrix of extended reals named by two natural numbers; zero outside the matrix. -/
def rd {A B : ℕ} (x : (⟨2, ![A, B]⟩ : Shape).Idx → EReal) (a b : ℕ) : EReal :=
  if h : a < A ∧ b < B then x (ix2 ⟨a, h.1⟩ ⟨b, h.2⟩) else 0

theorem rd_of {A B : ℕ} (x : (⟨2, ![A, B]⟩ : Shape).Idx → EReal) {a b : ℕ} (ha : a < A) (hb : b < B) :
    rd x a b = x (ix2 ⟨a, ha⟩ ⟨b, hb⟩) := dif_pos ⟨ha, hb⟩

theorem rd_fin {A B : ℕ} (x : (⟨2, ![A, B]⟩ : Shape).Idx → EReal) (a : Fin A) (b : Fin B) :
    rd x a b = x (ix2 a b) := rd_of x a.isLt b.isLt

/-- A load of part of a matrix, at an index, is the matrix's entry at the offset plus the index. -/
theorem readAt_ix2 {sp : Space} {e : EltTy} {A B A' B' : ℕ} (v : View sig .tc sp (⟨2, ![A, B]⟩ : Shape) e) (f : v.ty.Contents (Elt Ideal))
    {off : Fin 2 → ℕ} (inb : ∀ a : Fin 2, off a + (![A', B'] : Fin 2 → ℕ) a ≤ (![A, B] : Fin 2 → ℕ) a) {o0 o1 : ℕ} (h : off = ![o0, o1])
    (p : Fin A') (q : Fin B') (h0 : o0 + p.val < A) (h1 : o1 + q.val < B) :
    v.readAt (Elt Ideal) (Rect.unit (s := ⟨2, ![A, B]⟩) off ![A', B'] inb).toLoadRect f (ix2 p q)
      = v.read (Elt Ideal) f (ix2 ⟨o0 + p, h0⟩ ⟨o1 + q, h1⟩) := by
  subst h
  rw [View.readAt_eq_ld]
  refine View.ld_unit_apply_of _ _ _ _ _ _ fun a => ?_
  match a with
  | 0 => rfl
  | 1 => rfl

/-- The weight entry of lane `c` and contracted position `q`: the stored value times the scale of its block, the blocks
    being 128 by 128 and the scales of this grid point's rows beginning at row `b`. -/
def wEnt (ws : Vec Ideal S28x89 .f32) (w : Vec Ideal S256x11392 .fp8e4m3) (b c q : ℕ) : EReal :=
  rd w c q * rd ws (b + c / 128) (q / 128)

/-- One product of the contraction. -/
def term (x : Vec Ideal S1024x11392 .bf16) (ws : Vec Ideal S28x89 .f32) (w : Vec Ideal S256x11392 .fp8e4m3) (b r c q : ℕ) : EReal :=
  rd x r q * wEnt ws w b c q

theorem sum_two_halves (f : ℕ → EReal) (K : ℕ) :
    ∑ q ∈ Finset.range 256, f (K + q) = (∑ x : Fin 128, f (K + x)) + ∑ x : Fin 128, f (K + (128 + x)) := by
  rw [Finset.sum_range (n := 256) (fun q => f (K + q))]
  exact Fin.sum_univ_two_halves 128 128 rfl (fun q : Fin 256 => f (K + q))

section Weights
variable {ws : Vec Ideal S28x89 .f32} {w : Vec Ideal S256x11392 .fp8e4m3} {b K : ℕ}

/-- Two stacked blocks of 128 lanes, each times its scale, are the weight's entries. -/
theorem pair_eq {s0 s1 : EReal} {w0 w1 : (⟨2, ![128, 128]⟩ : Shape).Idx → EReal} (hK : K % 128 = 0)
    (h0 : ∀ c q : Fin 128, w0 (ix2 c q) = rd w c (K + q)) (h1 : ∀ c q : Fin 128, w1 (ix2 c q) = rd w (128 + c) (K + q))
    (hs0 : s0 = rd ws b (K / 128)) (hs1 : s1 = rd ws (b + 1) (K / 128)) (c : Fin 256) (q : Fin 128) :
    (if h : (c : ℕ) < 128 then w0 (ix2 ⟨c, h⟩ q) * s0 else w1 (ix2 ⟨c - 128, by omega⟩ q) * s1) = wEnt ws w b c (K + q) := by
  have hq : (K + q.val) / 128 = K / 128 := by omega
  unfold wEnt
  rw [hq]
  split
  · rename_i h
    rw [h0, hs0]
    have : c.val / 128 = 0 := by omega
    rw [this]; rfl
  · rename_i h
    rw [h1, hs1]
    have e1 : c.val / 128 = 1 := by omega
    have e2 : 128 + (c.val - 128) = c.val := by omega
    rw [e1]; simp only [e2]

end Weights

section Trip
variable {x9 : Vec Ideal S1024x11392 .bf16} {ws : Vec Ideal S28x89 .f32} {w : Vec Ideal S256x11392 .fp8e4m3} {b K : ℕ}
  {xb : Vec Ideal S1024x256 .bf16} {s00 s10 s01 s11 : Elt Ideal .f32} {w00 w10 w01 w11 : Vec Ideal S128x128 .fp8e4m3}

set_option maxHeartbeats 1000000 in
/-- A step of 256 contracted positions into the first half of the accumulator. -/
theorem pay111_apply (hK : K % 128 = 0) (hx : ∀ (r : Fin 1024) (q : Fin 256), xb (ix2 r q) = rd x9 r (K + q))
    (h00 : ∀ c q : Fin 128, w00 (ix2 c q) = rd w c (K + q)) (h10 : ∀ c q : Fin 128, w10 (ix2 c q) = rd w (128 + c) (K + q))
    (h01 : ∀ c q : Fin 128, w01 (ix2 c q) = rd w c (K + 128 + q)) (h11 : ∀ c q : Fin 128, w11 (ix2 c q) = rd w (128 + c) (K + 128 + q))
    (e00 : s00 = rd ws b (K / 128)) (e10 : s10 = rd ws (b + 1) (K / 128))
    (e01 : s01 = rd ws b ((K + 128) / 128)) (e11 : s11 = rd ws (b + 1) ((K + 128) / 128))
    (old : Vec Ideal S1024x256 .f32) (r : Fin 1024) (c : Fin 256) :
    k0_pay111 xb (k0_pay109 s00 w00 s10 w10) (k0_pay110 s01) w01 s11 w11 old (ix2 r c)
      = old (ix2 r c) + ∑ q ∈ Finset.range 256, term x9 ws w b r c (K + q) := by
  rw [sum_two_halves (fun q => term x9 ws w b r c q) K]
  pointwise [k0_pay111, k0_pay109, k0_pay110]
  refine congrArg (old (ix2 r c) + ·) (congrArg₂ (· + ·) (Finset.sum_congr rfl fun q _ => ?_) (Finset.sum_congr rfl fun q _ => ?_))
  · exact congrArg₂ (· * ·) (hx r ⟨q, by omega⟩) (pair_eq hK h00 h10 e00 e10 c q)
  · exact congrArg₂ (· * ·) (hx r ⟨128 + q, by omega⟩) ((pair_eq (by omega) h01 h11 e01 e11 c q).trans (by rw [Nat.add_assoc]))

set_option maxHeartbeats 1000000 in
/-- The same into the second half. -/
theorem pay116_apply (hK : K % 128 = 0) (hx : ∀ (r : Fin 1024) (q : Fin 256), xb (ix2 r q) = rd x9 r (K + q))
    (h00 : ∀ c q : Fin 128, w00 (ix2 c q) = rd w c (K + q)) (h10 : ∀ c q : Fin 128, w10 (ix2 c q) = rd w (128 + c) (K + q))
    (h01 : ∀ c q : Fin 128, w01 (ix2 c q) = rd w c (K + 128 + q)) (h11 : ∀ c q : Fin 128, w11 (ix2 c q) = rd w (128 + c) (K + 128 + q))
    (e00 : s00 = rd ws b (K / 128)) (e10 : s10 = rd ws (b + 1) (K / 128))
    (e01 : s01 = rd ws b ((K + 128) / 128)) (e11 : s11 = rd ws (b + 1) ((K + 128) / 128))
    (old : Vec Ideal S1024x256 .f32) (r : Fin 1024) (c : Fin 256) :
    k0_pay116 xb (k0_pay112 s00 w00) (k0_pay113 s10) w10 s01 w01 s11 w11 old (ix2 r c)
      = old (ix2 r c) + ∑ q ∈ Finset.range 256, term x9 ws w b r c (K + q) := by
  rw [sum_two_halves (fun q => term x9 ws w b r c q) K]
  pointwise [k0_pay116, k0_pay112, k0_pay113]
  refine congrArg (old (ix2 r c) + ·) (congrArg₂ (· + ·) (Finset.sum_congr rfl fun q _ => ?_) (Finset.sum_congr rfl fun q _ => ?_))
  · exact congrArg₂ (· * ·) (hx r ⟨q, by omega⟩) (pair_eq hK h00 h10 e00 e10 c q)
  · exact congrArg₂ (· * ·) (hx r ⟨128 + q, by omega⟩) ((pair_eq (by omega) h01 h11 e01 e11 c q).trans (by rw [Nat.add_assoc]))

end Trip

section Tail
variable {x9 : Vec Ideal S1024x11392 .bf16} {ws : Vec Ideal S28x89 .f32} {w : Vec Ideal S256x11392 .fp8e4m3} {b K : ℕ}
  {xb : Vec Ideal S1024x128 .bf16} {s0 s1 : Elt Ideal .f32} {w0 w1 : Vec Ideal S128x128 .fp8e4m3}

set_option maxHeartbeats 1000000 in
/-- The last step, of 128 contracted positions, into the first half. -/
theorem pay118_apply (hK : K % 128 = 0) (hx : ∀ (r : Fin 1024) (q : Fin 128), xb (ix2 r q) = rd x9 r (K + q))
    (h0 : ∀ c q : Fin 128, w0 (ix2 c q) = rd w c (K + q)) (h1 : ∀ c q : Fin 128, w1 (ix2 c q) = rd w (128 + c) (K + q))
    (e0 : s0 = rd ws b (K / 128)) (e1 : s1 = rd ws (b + 1) (K / 128))
    (old : Vec Ideal S1024x256 .f32) (r : Fin 1024) (c : Fin 256) :
    k0_pay118 xb (k0_pay117 s0 w0 s1 w1) old (ix2 r c) = old (ix2 r c) + ∑ q ∈ Finset.range 128, term x9 ws w b r c (K + q) := by
  rw [Finset.sum_range (n := 128) (fun q => term x9 ws w b r c (K + q))]
  pointwise [k0_pay118, k0_pay117]
  exact congrArg (old (ix2 r c) + ·) (Finset.sum_congr rfl fun q _ => congrArg₂ (· * ·) (hx r q) (pair_eq hK h0 h1 e0 e1 c q))

set_option maxHeartbeats 1000000 in
/-- The same into the second half. -/
theorem pay119_apply (hK : K % 128 = 0) (hx : ∀ (r : Fin 1024) (q : Fin 128), xb (ix2 r q) = rd x9 r (K + q))
    (h0 : ∀ c q : Fin 128, w0 (ix2 c q) = rd w c (K + q)) (h1 : ∀ c q : Fin 128, w1 (ix2 c q) = rd w (128 + c) (K + q))
    (e0 : s0 = rd ws b (K / 128)) (e1 : s1 = rd ws (b + 1) (K / 128))
    (old : Vec Ideal S1024x256 .f32) (r : Fin 1024) (c : Fin 256) :
    k0_pay119 xb s0 w0 s1 w1 old (ix2 r c) = old (ix2 r c) + ∑ q ∈ Finset.range 128, term x9 ws w b r c (K + q) := by
  rw [Finset.sum_range (n := 128) (fun q => term x9 ws w b r c (K + q))]
  pointwise [k0_pay119]
  exact congrArg (old (ix2 r c) + ·) (Finset.sum_congr rfl fun q _ => congrArg₂ (· * ·) (hx r q) (pair_eq hK h0 h1 e0 e1 c q))

end Tail

/-- What the accumulator holds after the first `K` contracted positions: the gate's partial sums in its first 256 lanes,
    the up projection's in the others. `n` is the grid point's second coordinate. -/
def accAt (x9 : Vec Ideal S1024x11392 .bf16) (ws : Vec Ideal S28x89 .f32) (wg wu : Vec Ideal S256x11392 .fp8e4m3) (n K : ℕ) :
    Vec Ideal S1024x512 .f32 := fun j =>
  if (j 1).val < 256 then ∑ q ∈ Finset.range K, term x9 ws wg (2 * n) (j 0) (j 1) q
  else ∑ q ∈ Finset.range K, term x9 ws wu (14 + 2 * n) (j 0) ((j 1).val - 256) q

theorem accAt_lo (x9 : Vec Ideal S1024x11392 .bf16) (ws : Vec Ideal S28x89 .f32) (wg wu : Vec Ideal S256x11392 .fp8e4m3) (n K : ℕ)
    (r : Fin 1024) (c : Fin 512) (hc : c.val < 256) :
    accAt x9 ws wg wu n K (ix2 r c) = ∑ q ∈ Finset.range K, term x9 ws wg (2 * n) r c q := if_pos hc

theorem accAt_hi (x9 : Vec Ideal S1024x11392 .bf16) (ws : Vec Ideal S28x89 .f32) (wg wu : Vec Ideal S256x11392 .fp8e4m3) (n K : ℕ)
    (r : Fin 1024) (c : Fin 512) (hc : ¬ c.val < 256) :
    accAt x9 ws wg wu n K (ix2 r c) = ∑ q ∈ Finset.range K, term x9 ws wu (14 + 2 * n) r (c.val - 256) q := if_neg hc

theorem accAt_zero (x9 : Vec Ideal S1024x11392 .bf16) (ws : Vec Ideal S28x89 .f32) (wg wu : Vec Ideal S256x11392 .fp8e4m3) (n : ℕ) :
    accAt x9 ws wg wu n 0 = fun _ => 0 := by
  funext j; unfold accAt; simp only [Finset.range_zero, Finset.sum_empty, ite_self]

/-- Adding `L` more positions to each half takes the partial sums from `K` to `K + L`,
    whatever stood there before: the two halves are the whole. -/
theorem accAt_step (x9 : Vec Ideal S1024x11392 .bf16) (ws : Vec Ideal S28x89 .f32) (wg wu : Vec Ideal S256x11392 .fp8e4m3) (n K L : ℕ)
    (X : Vec Ideal S1024x512 .f32) (p0 p1 : Vec Ideal S1024x256 .f32)
    (h0 : ∀ (r : Fin 1024) (c : Fin 256), p0 (ix2 r c) = accAt x9 ws wg wu n K (ix2 r ⟨c, by omega⟩) + ∑ q ∈ Finset.range L, term x9 ws wg (2 * n) r c (K + q))
    (h1 : ∀ (r : Fin 1024) (c : Fin 256), p1 (ix2 r c) = accAt x9 ws wg wu n K (ix2 r ⟨256 + c, by omega⟩) + ∑ q ∈ Finset.range L, term x9 ws wu (14 + 2 * n) r c (K + q)) :
    VecWindow.put (VecWindow.put X ![0, 0] ![1024, 256] p0) ![0, 256] ![1024, 256] p1 = accAt x9 ws wg wu n (K + L) := by
  funext j
  obtain ⟨r, c, rfl⟩ : ∃ (r : Fin 1024) (c : Fin 512), j = ix2 r c := ⟨j 0, j 1, eq_ix2 j⟩
  by_cases hc : c.val < 256
  · unfold VecWindow.put
    rw [dif_neg (fun h => by have := (h 1).1; simp [ix2] at this; omega), dif_pos (by
      intro a; match a with
      | 0 => exact ⟨Nat.zero_le _, by simpa using r.isLt⟩
      | 1 => exact ⟨Nat.zero_le _, by simpa using hc⟩)]
    have e : Rect.unitLocal (s := S1024x512) (off := ![0, 0]) (size := ![1024, 256]) (ix2 r c) (by
      intro a; match a with
      | 0 => exact ⟨Nat.zero_le _, by simpa using r.isLt⟩
      | 1 => exact ⟨Nat.zero_le _, by simpa using hc⟩) = ix2 r ⟨c, hc⟩ := by
      funext a; match a with
      | 0 => rfl
      | 1 => rfl
    refine (congrArg p0 e).trans ((h0 r ⟨c, hc⟩).trans ?_)
    rw [accAt_lo _ _ _ _ _ _ _ _ hc, accAt_lo _ _ _ _ _ _ _ _ hc, Finset.sum_range_add]
  · have hc' : c.val - 256 < 256 := by omega
    have hm : ∀ a : Fin 2, (![0, 256] : Fin 2 → ℕ) a ≤ (ix2 r c a).val ∧ (ix2 r c a).val < (![0, 256] : Fin 2 → ℕ) a + (![1024, 256] : Fin 2 → ℕ) a := by
      intro a; match a with
      | 0 => exact ⟨Nat.zero_le _, by simpa using r.isLt⟩
      | 1 => exact ⟨by simpa [ix2] using Nat.le_of_not_lt hc, by simpa [ix2] using c.isLt⟩
    unfold VecWindow.put
    rw [dif_pos hm]
    have e : Rect.unitLocal (s := S1024x512) (off := ![0, 256]) (size := ![1024, 256]) (ix2 r c) hm = ix2 r (⟨c.val - 256, hc'⟩ : Fin 256) := by
      funext a; match a with
      | 0 => rfl
      | 1 => rfl
    have e2 : (⟨256 + (c.val - 256), by omega⟩ : Fin 512) = c := Fin.ext (by show 256 + (c.val - 256) = c.val; omega)
    refine (congrArg p1 e).trans ((h1 r ⟨c.val - 256, hc'⟩).trans ?_)
    rw [show (⟨256 + (⟨c.val - 256, hc'⟩ : Fin 256).val, by show 256 + (c.val - 256) < 512; omega⟩ : Fin 512) = c from e2,
      accAt_hi _ _ _ _ _ _ _ _ hc, accAt_hi _ _ _ _ _ _ _ _ hc, Finset.sum_range_add]

end Cert.KernelIdeal.Gen
-- ==== Proof.Loop.lean ====
/- The loop over the contraction: what its trips leave in the accumulator, read as a matrix. -/
module

public import proofs.«01_k».proof.Proof.Acc
public import Idealize.ShloMosaic.Lib.Tactic

@[expose] public section

set_option maxRecDepth 16384

noncomputable section

namespace Cert.KernelIdeal.Gen

open Idealize.ShloMosaic Idealize.ShloMosaic.Tactic

theorem trips_t1 : Scf.trips k0_t1_loop.lb k0_t1_loop.ub k0_t1_loop.st = 44 := by decide +kernel

section
variable (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (arg1 : BitVec 32)
  (X2 : BufTy.Contents (Elt Ideal) arg2.view.ty) (X5 : BufTy.Contents (Elt Ideal) arg5.view.ty) (X6 : BufTy.Contents (Elt Ideal) arg6.view.ty)
  (X9 : BufTy.Contents (Elt Ideal) arg9.view.ty)

/-- One scalar read of the scales. -/
theorem scal_rd {off : Fin 2 → ℕ} (inb : ∀ a : Fin 2, off a + S1x1.size a ≤ S28x89.size a) {o0 o1 : ℕ} (h : off = ![o0, o1]) (hp : 0 < S1x1.numel) :
    arg2.view.readAt (Elt Ideal) (Rect.unit (s := S28x89) off S1x1.size inb).toLoadRect X2 (Shape.Idx.first hp)
      = rd (arg2.view.read (Elt Ideal) X2) o0 o1 := by
  have h0 := inb 0
  have h1 := inb 1
  subst h
  have h0' : o0 + 1 ≤ 28 := h0
  have h1' : o1 + 1 ≤ 89 := h1
  have e : (Shape.Idx.first hp : S1x1.Idx) = ix2 (0 : Fin 1) (0 : Fin 1) := by
    funext a; match a with
    | 0 => rfl
    | 1 => rfl
  rw [rd_of _ (show o0 < 28 by omega) (show o1 < 89 by omega)]
  refine (congrArg _ e).trans ?_
  exact (readAt_ix2 (A' := 1) (B' := 1) arg2.view X2 inb rfl 0 0 (by simpa using h0') (by simpa using h1'))

/-- A block of weights read at columns from `o1`, its first or second 128 rows. -/
theorem w_rd {arg : Memref sig .tc .vmem S256x11392 .fp8e4m3} (X : BufTy.Contents (Elt Ideal) arg.view.ty) {off : Fin 2 → ℕ}
    (inb : ∀ a : Fin 2, off a + S128x128.size a ≤ S256x11392.size a) {o0 o1 : ℕ} (h : off = ![o0, o1]) (c q : Fin 128) :
    arg.view.readAt (Elt Ideal) (Rect.unit (s := S256x11392) off S128x128.size inb).toLoadRect X (ix2 c q)
      = rd (arg.view.read (Elt Ideal) X) (o0 + c) (o1 + q) := by
  have h0 := inb 0
  have h1 := inb 1
  subst h
  have h0' : o0 + 128 ≤ 256 := h0
  have h1' : o1 + 128 ≤ 11392 := h1
  exact (readAt_ix2 arg.view X inb rfl c q (by omega) (by omega)).trans (rd_of _ (by omega) (by omega)).symm

theorem w_rd0 {arg : Memref sig .tc .vmem S256x11392 .fp8e4m3} (X : BufTy.Contents (Elt Ideal) arg.view.ty) {off : Fin 2 → ℕ}
    (inb : ∀ a : Fin 2, off a + S128x128.size a ≤ S256x11392.size a) {o1 : ℕ} (h : off = ![0, o1]) (c q : Fin 128) :
    arg.view.readAt (Elt Ideal) (Rect.unit (s := S256x11392) off S128x128.size inb).toLoadRect X (ix2 c q)
      = rd (arg.view.read (Elt Ideal) X) c (o1 + q) := (w_rd X inb h c q).trans (by rw [Nat.zero_add])

set_option maxHeartbeats 1000000 in
/-- One trip adds 256 more contracted positions. -/
theorem trip_read (k : Fin k0_t1_loop.trips) (f : BufTy.Contents (Elt Ideal) arg10.view.ty)
    (hf : arg10.view.read (Elt Ideal) f = accAt (arg9.view.read (Elt Ideal) X9) (arg2.view.read (Elt Ideal) X2) (arg5.view.read (Elt Ideal) X5)
      (arg6.view.read (Elt Ideal) X6) (i 1).val (256 * k.val)) :
    arg10.view.read (Elt Ideal) (arg10.view.writes (Elt Ideal) f
        (tripL_k0_t1 (F := Ideal) Variants.none c none i arg2 harg2 arg3 harg3 arg4 harg4 arg5 harg5 arg6 harg6 arg7 harg7 arg8 harg8 arg9 harg9 arg10 harg10 arg1 X2 X5 X6 X9 k f))
      = accAt (arg9.view.read (Elt Ideal) X9) (arg2.view.read (Elt Ideal) X2) (arg5.view.read (Elt Ideal) X5)
          (arg6.view.read (Elt Ideal) X6) (i 1).val (256 * k.val + 256) := by
  have hk : k.val < 44 := Nat.lt_of_lt_of_le k.isLt k0_t1_abs.2.1
  have hn : (i 1).val < 7 := (i 1).isLt
  have hK : (256 * k.val) % 128 = 0 := by omega
  have d0 : (256 * k.val) / 128 = 2 * k.val := by omega
  have d1 : (256 * k.val + 128) / 128 = 2 * k.val + 1 := by omega
  have hx : ∀ (r : Fin 1024) (q : Fin 256), arg9.view.readAt (Elt Ideal) (Rect.unit (s := S1024x11392) (k0_off1 k) S1024x256.size (k0_off1_inb k)).toLoadRect X9 (ix2 r q)
      = rd (arg9.view.read (Elt Ideal) X9) r (256 * k.val + q) := fun r q =>
    (readAt_ix2 arg9.view X9 (k0_off1_inb k) (k0_off1_eq k) r q (by omega) (by omega)).trans
      ((rd_of _ (by omega) (by omega)).symm.trans (by rw [Nat.zero_add]))
  unfold tripL_k0_t1 trip_k0_t1
  dsimp only
  rw [View.read_writes_cons_put _ _ _ _ _ rfl, View.read_writes_cons_put _ _ _ _ _ rfl, View.writes_nil]
  refine accAt_step _ _ _ _ _ _ _ _ _ _ (fun r c => ?_) (fun r c => ?_)
  · refine (pay111_apply (x9 := arg9.view.read (Elt Ideal) X9) (ws := arg2.view.read (Elt Ideal) X2) (w := arg5.view.read (Elt Ideal) X5)
      (b := 2 * (i 1).val) (K := 256 * k.val) hK hx ?_ ?_ ?_ ?_ ?_ ?_ ?_ ?_ _ r c).trans ?_
    · exact fun c q => w_rd0 X5 _ (k0_off3_eq k 0) c q
    · exact fun c q => w_rd X5 _ (k0_off4_eq k 0) c q
    · exact fun c q => w_rd0 X5 _ (k0_off3_eq k 1) c q
    · exact fun c q => w_rd X5 _ (k0_off4_eq k 1) c q
    · exact (scal_rd arg2 X2 _ (k0_off2_eq i k 0 0 0) _).trans (by rw [d0]; congr 1; simp)
    · exact (scal_rd arg2 X2 _ (k0_off2_eq i k 0 1 0) _).trans (by rw [d0]; congr 1; simp)
    · exact (scal_rd arg2 X2 _ (k0_off2_eq i k 0 0 1) _).trans (by rw [d1]; congr 1; simp)
    · exact (scal_rd arg2 X2 _ (k0_off2_eq i k 0 1 1) _).trans (by rw [d1]; congr 1; simp)
    · refine congrArg (· + _) ?_
      exact (readAt_ix2 arg10.view f inb_S1024x512_S1024x256_0_0 rfl r c (by omega) (by omega)).trans
        ((congrFun hf _).trans (by congr 2 <;> exact Fin.ext (Nat.zero_add _)))
  · refine (pay116_apply (x9 := arg9.view.read (Elt Ideal) X9) (ws := arg2.view.read (Elt Ideal) X2) (w := arg6.view.read (Elt Ideal) X6)
      (b := 14 + 2 * (i 1).val) (K := 256 * k.val) hK hx ?_ ?_ ?_ ?_ ?_ ?_ ?_ ?_ _ r c).trans ?_
    · exact fun c q => w_rd0 X6 _ (k0_off3_eq k 0) c q
    · exact fun c q => w_rd X6 _ (k0_off4_eq k 0) c q
    · exact fun c q => w_rd0 X6 _ (k0_off3_eq k 1) c q
    · exact fun c q => w_rd X6 _ (k0_off4_eq k 1) c q
    · exact (scal_rd arg2 X2 _ (k0_off2_eq i k 1 0 0) _).trans (by rw [d0]; congr 1)
    · exact (scal_rd arg2 X2 _ (k0_off2_eq i k 1 1 0) _).trans (by rw [d0]; congr 1)
    · exact (scal_rd arg2 X2 _ (k0_off2_eq i k 1 0 1) _).trans (by rw [d1]; congr 1)
    · exact (scal_rd arg2 X2 _ (k0_off2_eq i k 1 1 1) _).trans (by rw [d1]; congr 1)
    · refine congrArg (· + _) ?_
      exact (readAt_ix2 arg10.view f inb_S1024x512_S1024x256_0_256 rfl r c (by omega) (by omega)).trans
        ((congrFun hf _).trans (by congr 2 <;> exact Fin.ext (Nat.zero_add _)))

/-- After `k` trips over zeros the accumulator holds the partial sums of `256 * k` contracted positions. -/
theorem pb_read (G : BufTy.Contents (Elt Ideal) arg10.view.ty) (hG : arg10.view.read (Elt Ideal) G = fun _ => 0) (k : ℕ) (hk : k ≤ 44) :
    arg10.view.read (Elt Ideal) (arg10.view.writes (Elt Ideal) G
        (pb_k0_t1 (F := Ideal) Variants.none c none i arg2 harg2 arg3 harg3 arg4 harg4 arg5 harg5 arg6 harg6 arg7 harg7 arg8 harg8 arg9 harg9 arg10 harg10 arg1 X2 X5 X6 X9 G k))
      = accAt (arg9.view.read (Elt Ideal) X9) (arg2.view.read (Elt Ideal) X2) (arg5.view.read (Elt Ideal) X5)
          (arg6.view.read (Elt Ideal) X6) (i 1).val (256 * k) := by
  induction k with
  | zero => rw [pb_k0_t1.eq_1, View.writes_nil, hG, Nat.mul_zero, accAt_zero]
  | succ k ih =>
    have hkt : k < k0_t1_loop.trips := by
      have : k0_t1_loop.trips = 44 := trips_t1
      omega
    have h := pb_k0_t1_succ (F := Ideal) Variants.none c none i arg2 harg2 arg3 harg3 arg4 harg4 arg5 harg5 arg6 harg6 arg7 harg7 arg8 harg8 arg9 harg9 arg10 harg10 arg1 X2 X5 X6 X9 G ⟨k, hkt⟩
    have h' := congrArg (fun L => arg10.view.read (Elt Ideal) (arg10.view.writes (Elt Ideal) G L)) h
    refine h'.trans ?_
    dsimp only
    rw [View.writes_append]
    exact trip_read c i arg2 harg2 arg3 harg3 arg4 harg4 arg5 harg5 arg6 harg6 arg7 harg7 arg8 harg8 arg9 harg9 arg10 harg10 arg1 X2 X5 X6 X9 ⟨k, hkt⟩ _ (ih (by omega))

end

end Cert.KernelIdeal.Gen
-- ==== Proof.Run30B.lean ====
/- The opening part of the body at a point that is not the first of its row block: the widened rows are in the scratch
   already, the accumulator is set to zero and the loop runs. -/
module

public import proofs.«01_k».proof.Proof.Loop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The columns of the widened rows that the last step contracts. -/
def tail10 (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (xb : Vec Ideal S1024x11392 .bf16) : Vec Ideal S1024x128 .bf16 :=
  View.readAt (Elt Ideal) arg9.view (Rect.unit (s := S1024x11392) ![0, 11264] S1024x128.size inb_S1024x11392_S1024x128_0_11264).toLoadRect (harg9.unread xb)

/-- The gate's weights of the last step, widened and scaled. -/
def tail32 (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (x0 : Vec Ideal S28x89 .f32) (x3 : Vec Ideal S256x11392 .fp8e4m3) : Vec Ideal S256x128 .bf16 :=
  k0_pay117 (View.readAt (Elt Ideal) arg2.view (Rect.unit (s := S28x89) (k0_off5 i 0#32 0#32) S1x1.size (k0_off5_inb i 0 0)).toLoadRect (harg2.unread x0) (Shape.Idx.first (show 0 < S1x1.numel by decide)))
    (View.readAt (Elt Ideal) arg5.view (Rect.unit (s := S256x11392) k0_off6 S128x128.size k0_off6_inb).toLoadRect (harg5.unread x3))
    (View.readAt (Elt Ideal) arg2.view (Rect.unit (s := S28x89) (k0_off5 i 0#32 1#32) S1x1.size (k0_off5_inb i 0 1)).toLoadRect (harg2.unread x0) (Shape.Idx.first (show 0 < S1x1.numel by decide)))
    (View.readAt (Elt Ideal) arg5.view (Rect.unit (s := S256x11392) k0_off7 S128x128.size k0_off7_inb).toLoadRect (harg5.unread x3))

/-- The accumulator set to zero reads as zeros. -/
theorem zero_read (arg10 : Memref sig .tc .vmem S1024x512 .f32) (f : BufTy.Contents (Elt Ideal) arg10.view.ty)
    (inb : ∀ a : Fin 2, (![0, 0] : Fin 2 → ℕ) a + S1024x512.size a ≤ S1024x512.size a) :
    arg10.view.read (Elt Ideal) (arg10.view.writes (Elt Ideal) f [⟨Rect.unit (s := S1024x512) ![0, 0] S1024x512.size inb, k0_pay115 (F := Ideal)⟩]) = fun _ => 0 := by
  funext y
  refine (View.read_writes_cons_unit_of_mem arg10.view f inb (k0_pay115 (F := Ideal)) [] y y rfl fun a => ?_).trans ?_
  · match a with
    | 0 => exact (Nat.zero_add _).symm
    | 1 => exact (Nat.zero_add _).symm
  · pointwise [k0_pay115]

set_option maxHeartbeats 3100000 in
/-- The part run from the widened rows `xb`. -/
theorem part30_B (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : ¬ cond0_0 i)
    (x0 : Vec Ideal S28x89 .f32) (x3 : Vec Ideal S256x11392 .fp8e4m3) (x4 : Vec Ideal S256x11392 .fp8e4m3) (xb : Vec Ideal S1024x11392 .bf16) (E : Set ℕ) :
    (iprop((arg2.view.loc (c : Thread nD τ) ↦[arg2.view.set]{fullShare} harg2.unread x0) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread xb) ∗ (∃ f, (arg10.view.loc (c : Thread nD τ) ↦[arg10.view.set]{fullShare} f))) : sProp 𝕄)
      ⊢ wp frame (wpE (defs₀ (F := Ideal)) Variants.none c none) E (k0_part30 i arg2 harg2 arg3 harg3 arg4 harg4 arg5 harg5 arg6 harg6 arg7 harg7 arg8 harg8 arg9 harg9 arg10 harg10) (fun r => iprop(
        ⌜r.1 = BitVec.ofNat 32 (i 1).val⌝ ∗ ⌜r.2.1 = 11264#32⌝ ∗ ⌜r.2.2.1 = tail10 i arg2 harg2 arg3 harg3 arg4 harg4 arg5 harg5 arg6 harg6 arg7 harg7 arg8 harg8 arg9 harg9 arg10 harg10 xb⌝ ∗ ⌜r.2.2.2 = tail32 i arg2 harg2 arg3 harg3 arg4 harg4 arg5 harg5 arg6 harg6 arg7 harg7 arg8 harg8 arg9 harg9 arg10 harg10 x0 x3⌝
        ∗ (arg2.view.loc (c : Thread nD τ) ↦[arg2.view.set]{fullShare} harg2.unread x0) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread xb) ∗ (arg10.view.loc (c : Thread nD τ) ↦[arg10.view.set]{fullShare} harg10.unread (accAt xb x0 x3 x4 (i 1).val 11264)))) := by
  rw [k0_part30_eq_skeleton]; unfold k0_part30_skel
  iintro ⟨H0, H3, H4, HS0, ⟨%f10, HS1⟩⟩
  sl_exec (disch := first | sl_exact hc0)
  sl_step
  isplitr
  · ipureintro; rfl
  isplitr
  · ipureintro; rfl
  isplitr
  · ipureintro; rfl
  isplitr
  · ipureintro; rfl
  isplitl [H0]
  · iexact H0
  isplitl [H3]
  · iexact H3
  isplitl [H4]
  · iexact H4
  isplitl [HS0]
  · iexact HS0
  ihave Hacc : (iprop(∃ f, ⌜arg10.view.read (Elt Ideal) f = accAt xb x0 x3 x4 (i 1).val 11264⌝ ∗ (arg10.view.loc (c : Thread nD τ) ↦[arg10.view.set]{fullShare} f)) : sProp 𝕄) $$ [HS1]
  · iexists _
    isplitr
    swap
    · iexact HS1
    ipureintro
    rw [View.writes_append, trips_t1]
    refine (pb_read c i arg2 harg2 arg3 harg3 arg4 harg4 arg5 harg5 arg6 harg6 arg7 harg7 arg8 harg8 arg9 harg9 arg10 harg10 _ _ _ _ _ _ ?_ 44 (le_refl _)).trans ?_
    · exact zero_read arg10 _ _
    · rw [harg9.read_unread, harg2.read_unread, harg5.read_unread, harg6.read_unread]
  icases Hacc with ⟨%f, %hf, H⟩
  obtain rfl := harg10.eq_unread hf
  iexact H

end Cert.KernelIdeal.Gen

end
-- ==== Proof.Run30A.lean ====
/- The opening part of the body at the first point of a row block: it widens the row block into the scratch, then does
   what it does at every point. -/
module

public import proofs.«01_k».proof.Proof.Run30B
public import Idealize.ShloMosaic.Lib.Pipeline.FrameBody
public import Idealize.ShloMosaic.Lib.Ring
public import Idealize.ShloMosaic.Lib.Pipeline.ReadBack
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The widened rows: each entry times the scale of its row and of its block of 128 columns. -/
def xbFun (x1 : Vec Ideal S1024x11392 .fp8e4m3) (x2 : Vec Ideal S1024x89 .f32) : Vec Ideal S1024x11392 .bf16 :=
  fun j => x1 j * rd x2 (j 0) ((j 1).val / 128)

theorem xbFun_ix2 (x1 : Vec Ideal S1024x11392 .fp8e4m3) (x2 : Vec Ideal S1024x89 .f32) (r : Fin 1024) (q : Fin 11392) :
    xbFun x1 x2 (ix2 r q) = x1 (ix2 r q) * rd x2 r (q.val / 128) := rfl

/-- What one store of the widening computes from a block of 128 columns and its column of scales. -/
def xPiece (v : Vec Ideal S1024x128 .fp8e4m3) (s : Vec Ideal S1024x1 .f32) : FVec Ideal S1024x128 .bf16 :=
  shapeCast S1024x128 (mulf (extf .bf16 (shapeCast S1024x128 v shapeCasts_S1024x128_S1024x128 : FVec Ideal S1024x128 .fp8e4m3) bitsLt_fp8e4m3_bf16)
    (broadcastTo S1024x128 (truncf .bf16 (shapeCast S1024x1 s shapeCasts_S1024x1_S1024x1 : FVec Ideal S1024x1 .f32) bitsLt_bf16_f32) broadcasts_S1024x1_S1024x128))
    shapeCasts_S1024x128_S1024x128

theorem xPiece_ix2 (v : Vec Ideal S1024x128 .fp8e4m3) (s : Vec Ideal S1024x1 .f32) (r : Fin 1024) (q : Fin 128) :
    xPiece v s (ix2 r q) = v (ix2 r q) * s (ix2 r 0) := by
  pointwise [xPiece]

/-- The store of block `j` is that block of the widened rows. -/
theorem xPiece_eq (arg3 : Memref sig .tc .vmem S1024x11392 .fp8e4m3) (harg3 : arg3.IsWhole) (arg4 : Memref sig .tc .vmem S1024x89 .f32) (harg4 : arg4.IsWhole)
    (x1 : Vec Ideal S1024x11392 .fp8e4m3) (x2 : Vec Ideal S1024x89 .f32) (o j : ℕ) (ho : o = 128 * j)
    (inb : ∀ a : Fin 2, (![0, o] : Fin 2 → ℕ) a + S1024x128.size a ≤ S1024x11392.size a) (inb' : ∀ a : Fin 2, (![0, j] : Fin 2 → ℕ) a + S1024x1.size a ≤ S1024x89.size a)
    (x : (Rect.unit (s := S1024x11392) ![0, o] S1024x128.size inb).shape.Idx) :
    xPiece (View.readAt (Elt Ideal) arg3.view (Rect.unit (s := S1024x11392) ![0, o] S1024x128.size inb).toLoadRect (harg3.unread x1))
        (View.readAt (Elt Ideal) arg4.view (Rect.unit (s := S1024x89) ![0, j] S1024x1.size inb').toLoadRect (harg4.unread x2)) x
      = xbFun x1 x2 ((Rect.unit (s := S1024x11392) ![0, o] S1024x128.size inb).emb x) := by
  obtain ⟨r, q, rfl⟩ : ∃ (r : Fin 1024) (q : Fin 128), x = ix2 r q := ⟨x 0, x 1, eq_ix2 (x : S1024x128.Idx)⟩
  have h1 : o + 128 ≤ 11392 := inb 1
  have h2 : j + 1 ≤ 89 := inb' 1
  have hq : o + q.val < 11392 := by omega
  have e : (Rect.unit (s := S1024x11392) ![0, o] S1024x128.size inb).emb (ix2 r q) = ix2 r ⟨o + q.val, hq⟩ := by
    funext a
    match a with
    | 0 => exact Fin.ext (show 0 + 1 * r.val = r.val by omega)
    | 1 => exact Fin.ext (show o + 1 * q.val = o + q.val by omega)
  refine (xPiece_ix2 _ _ r q).trans (Eq.trans ?_ (congrArg (xbFun x1 x2) e).symm)
  rw [xbFun_ix2]
  refine congrArg₂ (· * ·) ?_ ?_
  · refine (readAt_ix2 arg3.view (harg3.unread x1) inb rfl r q (by omega) hq).trans ?_
    rw [harg3.read_unread]
    congr 2
    exact Fin.ext (Nat.zero_add _)
  · refine (readAt_ix2 arg4.view (harg4.unread x2) inb' rfl r 0 (by omega) (show j + 0 < 89 by omega)).trans ?_
    rw [harg4.read_unread]
    have e2 : (o + q.val) / 128 = j := by omega
    refine Eq.trans ?_ (rd_of x2 r.isLt (show (o + q.val) / 128 < 89 by omega)).symm
    refine congrArg x2 (congrArg₂ ix2 (Fin.ext (Nat.zero_add _)) (Fin.ext ?_))
    exact e2.symm

set_option maxHeartbeats 3100000 in
/-- The part run from the widened rows `xb`. -/
theorem part30_A (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : cond0_0 i)
    (x0 : Vec Ideal S28x89 .f32) (x1 : Vec Ideal S1024x11392 .fp8e4m3) (x2 : Vec Ideal S1024x89 .f32) (x3 : Vec Ideal S256x11392 .fp8e4m3) (x4 : Vec Ideal S256x11392 .fp8e4m3) (E : Set ℕ) :
    (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (∃ f, (arg9.view.loc (c : Thread nD τ) ↦[arg9.view.set]{fullShare} f)) ∗ (∃ f, (arg10.view.loc (c : Thread nD τ) ↦[arg10.view.set]{fullShare} f))) : sProp 𝕄)
      ⊢ wp frame (wpE (defs₀ (F := Ideal)) Variants.none c none) E (k0_part30 i arg2 harg2 arg3 harg3 arg4 harg4 arg5 harg5 arg6 harg6 arg7 harg7 arg8 harg8 arg9 harg9 arg10 harg10) (fun r => iprop(
        ⌜r.1 = BitVec.ofNat 32 (i 1).val⌝ ∗ ⌜r.2.1 = 11264#32⌝ ∗ ⌜r.2.2.1 = tail10 i arg2 harg2 arg3 harg3 arg4 harg4 arg5 harg5 arg6 harg6 arg7 harg7 arg8 harg8 arg9 harg9 arg10 harg10 (xbFun x1 x2)⌝ ∗ ⌜r.2.2.2 = tail32 i arg2 harg2 arg3 harg3 arg4 harg4 arg5 harg5 arg6 harg6 arg7 harg7 arg8 harg8 arg9 harg9 arg10 harg10 x0 x3⌝
        ∗ (arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread (xbFun x1 x2)) ∗ (arg10.view.loc (c : Thread nD τ) ↦[arg10.view.set]{fullShare} harg10.unread (accAt (xbFun x1 x2) x0 x3 x4 (i 1).val 11264)))) := by
  rw [k0_part30_eq_skeleton]; unfold k0_part30_skel
  iintro ⟨H0, H1, H2, H3, H4, ⟨%f9, HS0⟩, ⟨%f10, HS1⟩⟩
  sl_exec (disch := first | sl_exact hc0)
  sl_step
  have hW : ∀ f, arg9.view.read (Elt Ideal) (arg9.view.writes (Elt Ideal) f (part30_A.sl.HS0_89 arg3 harg3 arg4 harg4 x1 x2)) = xbFun x1 x2 := by
    intro f
    have hcov : ∀ y, ∃ p ∈ part30_A.sl.HS0_89 arg3 harg3 arg4 harg4 x1 x2, y ∈ p.1.set :=
      View.cover_of_tiledL _ S1024x128.size (by sl_kernel_rfl)
    rw [View.read_writes_eq_canon _ _ _ hcov]
    funext y
    have hp : View.PiecesOf (xbFun x1 x2) (part30_A.sl.HS0_89 arg3 harg3 arg4 harg4 x1 x2) := by
      unfold part30_A.sl.HS0_89
      exact ⟨xPiece_eq arg3 harg3 arg4 harg4 x1 x2 11264 88 rfl _ _, xPiece_eq arg3 harg3 arg4 harg4 x1 x2 11136 87 rfl _ _, xPiece_eq arg3 harg3 arg4 harg4 x1 x2 11008 86 rfl _ _, xPiece_eq arg3 harg3 arg4 harg4 x1 x2 10880 85 rfl _ _, xPiece_eq arg3 harg3 arg4 harg4 x1 x2 10752 84 rfl _ _, xPiece_eq arg3 harg3 arg4 harg4 x1 x2 10624 83 rfl _ _, xPiece_eq arg3 harg3 arg4 harg4 x1 x2 10496 82 rfl _ _, xPiece_eq arg3 harg3 arg4 harg4 x1 x2 10368 81 rfl _ _, xPiece_eq arg3 harg3 arg4 harg4 x1 x2 10240 80 rfl _ _, xPiece_eq arg3 harg3 arg4 harg4 x1 x2 10112 79 rfl _ _, xPiece_eq arg3 harg3 arg4 harg4 x1 x2 9984 78 rfl _ _, xPiece_eq arg3 harg3 arg4 harg4 x1 x2 9856 77 rfl _ _, xPiece_eq arg3 harg3 arg4 harg4 x1 x2 9728 76 rfl _ _, xPiece_eq arg3 harg3 arg4 harg4 x1 x2 9600 75 rfl _ _, xPiece_eq arg3 harg3 arg4 harg4 x1 x2 9472 74 rfl _ _, xPiece_eq arg3 harg3 arg4 harg4 x1 x2 9344 73 rfl _ _, xPiece_eq arg3 harg3 arg4 harg4 x1 x2 9216 72 rfl _ _, xPiece_eq arg3 harg3 arg4 harg4 x1 x2 9088 71 rfl _ _, xPiece_eq arg3 harg3 arg4 harg4 x1 x2 8960 70 rfl _ _, xPiece_eq arg3 harg3 arg4 harg4 x1 x2 8832 69 rfl _ _, xPiece_eq arg3 harg3 arg4 harg4 x1 x2 8704 68 rfl _ _, xPiece_eq arg3 harg3 arg4 harg4 x1 x2 8576 67 rfl _ _, xPiece_eq arg3 harg3 arg4 harg4 x1 x2 8448 66 rfl _ _, xPiece_eq arg3 harg3 arg4 harg4 x1 x2 8320 65 rfl _ _, xPiece_eq arg3 harg3 arg4 harg4 x1 x2 8192 64 rfl _ _, xPiece_eq arg3 harg3 arg4 harg4 x1 x2 8064 63 rfl _ _, xPiece_eq arg3 harg3 arg4 harg4 x1 x2 7936 62 rfl _ _, xPiece_eq arg3 harg3 arg4 harg4 x1 x2 7808 61 rfl _ _, xPiece_eq arg3 harg3 arg4 harg4 x1 x2 7680 60 rfl _ _, xPiece_eq arg3 harg3 arg4 harg4 x1 x2 7552 59 rfl _ _, xPiece_eq arg3 harg3 arg4 harg4 x1 x2 7424 58 rfl _ _, xPiece_eq arg3 harg3 arg4 harg4 x1 x2 7296 57 rfl _ _, xPiece_eq arg3 harg3 arg4 harg4 x1 x2 7168 56 rfl _ _, xPiece_eq arg3 harg3 arg4 harg4 x1 x2 7040 55 rfl _ _, xPiece_eq arg3 harg3 arg4 harg4 x1 x2 6912 54 rfl _ _, xPiece_eq arg3 harg3 arg4 harg4 x1 x2 6784 53 rfl _ _, xPiece_eq arg3 harg3 arg4 harg4 x1 x2 6656 52 rfl _ _, xPiece_eq arg3 harg3 arg4 harg4 x1 x2 6528 51 rfl _ _, xPiece_eq arg3 harg3 arg4 harg4 x1 x2 6400 50 rfl _ _, xPiece_eq arg3 harg3 arg4 harg4 x1 x2 6272 49 rfl _ _, xPiece_eq arg3 harg3 arg4 harg4 x1 x2 6144 48 rfl _ _, xPiece_eq arg3 harg3 arg4 harg4 x1 x2 6016 47 rfl _ _, xPiece_eq arg3 harg3 arg4 harg4 x1 x2 5888 46 rfl _ _, xPiece_eq arg3 harg3 arg4 harg4 x1 x2 5760 45 rfl _ _, xPiece_eq arg3 harg3 arg4 harg4 x1 x2 5632 44 rfl _ _, xPiece_eq arg3 harg3 arg4 harg4 x1 x2 5504 43 rfl _ _, xPiece_eq arg3 harg3 arg4 harg4 x1 x2 5376 42 rfl _ _, xPiece_eq arg3 harg3 arg4 harg4 x1 x2 5248 41 rfl _ _, xPiece_eq arg3 harg3 arg4 harg4 x1 x2 5120 40 rfl _ _, xPiece_eq arg3 harg3 arg4 harg4 x1 x2 4992 39 rfl _ _, xPiece_eq arg3 harg3 arg4 harg4 x1 x2 4864 38 rfl _ _, xPiece_eq arg3 harg3 arg4 harg4 x1 x2 4736 37 rfl _ _, xPiece_eq arg3 harg3 arg4 harg4 x1 x2 4608 36 rfl _ _, xPiece_eq arg3 harg3 arg4 harg4 x1 x2 4480 35 rfl _ _, xPiece_eq arg3 harg3 arg4 harg4 x1 x2 4352 34 rfl _ _, xPiece_eq arg3 harg3 arg4 harg4 x1 x2 4224 33 rfl _ _, xPiece_eq arg3 harg3 arg4 harg4 x1 x2 4096 32 rfl _ _, xPiece_eq arg3 harg3 arg4 harg4 x1 x2 3968 31 rfl _ _, xPiece_eq arg3 harg3 arg4 harg4 x1 x2 3840 30 rfl _ _, xPiece_eq arg3 harg3 arg4 harg4 x1 x2 3712 29 rfl _ _, xPiece_eq arg3 harg3 arg4 harg4 x1 x2 3584 28 rfl _ _, xPiece_eq arg3 harg3 arg4 harg4 x1 x2 3456 27 rfl _ _, xPiece_eq arg3 harg3 arg4 harg4 x1 x2 3328 26 rfl _ _, xPiece_eq arg3 harg3 arg4 harg4 x1 x2 3200 25 rfl _ _, xPiece_eq arg3 harg3 arg4 harg4 x1 x2 3072 24 rfl _ _, xPiece_eq arg3 harg3 arg4 harg4 x1 x2 2944 23 rfl _ _, xPiece_eq arg3 harg3 arg4 harg4 x1 x2 2816 22 rfl _ _, xPiece_eq arg3 harg3 arg4 harg4 x1 x2 2688 21 rfl _ _, xPiece_eq arg3 harg3 arg4 harg4 x1 x2 2560 20 rfl _ _, xPiece_eq arg3 harg3 arg4 harg4 x1 x2 2432 19 rfl _ _, xPiece_eq arg3 harg3 arg4 harg4 x1 x2 2304 18 rfl _ _, xPiece_eq arg3 harg3 arg4 harg4 x1 x2 2176 17 rfl _ _, xPiece_eq arg3 harg3 arg4 harg4 x1 x2 2048 16 rfl _ _, xPiece_eq arg3 harg3 arg4 harg4 x1 x2 1920 15 rfl _ _, xPiece_eq arg3 harg3 arg4 harg4 x1 x2 1792 14 rfl _ _, xPiece_eq arg3 harg3 arg4 harg4 x1 x2 1664 13 rfl _ _, xPiece_eq arg3 harg3 arg4 harg4 x1 x2 1536 12 rfl _ _, xPiece_eq arg3 harg3 arg4 harg4 x1 x2 1408 11 rfl _ _, xPiece_eq arg3 harg3 arg4 harg4 x1 x2 1280 10 rfl _ _, xPiece_eq arg3 harg3 arg4 harg4 x1 x2 1152 9 rfl _ _, xPiece_eq arg3 harg3 arg4 harg4 x1 x2 1024 8 rfl _ _, xPiece_eq arg3 harg3 arg4 harg4 x1 x2 896 7 rfl _ _, xPiece_eq arg3 harg3 arg4 harg4 x1 x2 768 6 rfl _ _, xPiece_eq arg3 harg3 arg4 harg4 x1 x2 640 5 rfl _ _, xPiece_eq arg3 harg3 arg4 harg4 x1 x2 512 4 rfl _ _, xPiece_eq arg3 harg3 arg4 harg4 x1 x2 384 3 rfl _ _, xPiece_eq arg3 harg3 arg4 harg4 x1 x2 256 2 rfl _ _, xPiece_eq arg3 harg3 arg4 harg4 x1 x2 128 1 rfl _ _, xPiece_eq arg3 harg3 arg4 harg4 x1 x2 0 0 rfl _ _, trivial⟩
    have := View.canon_append_of_piecesOf (xbFun x1 x2) [] _ hp y (hcov y)
    rwa [List.append_nil] at this
  have e10 : part30_A.sl.v10 arg3 harg3 arg4 harg4 arg9 x1 x2 = tail10 i arg2 harg2 arg3 harg3 arg4 harg4 arg5 harg5 arg6 harg6 arg7 harg7 arg8 harg8 arg9 harg9 arg10 harg10 (xbFun x1 x2) := by
    unfold tail10
    rw [View.readAt_eq_ld, harg9.read_unread, ← hW arg9.view.junk]
    rfl
  isplitr
  · ipureintro; rfl
  isplitr
  · ipureintro; rfl
  isplitr
  · ipureintro; exact e10
  isplitr
  · ipureintro; rfl
  isplitl [H0]
  · iexact H0
  isplitl [H1]
  · iexact H1
  isplitl [H2]
  · iexact H2
  isplitl [H3]
  · iexact H3
  isplitl [H4]
  · iexact H4
  isplitl [HS0]
  · ihave Hx : (iprop(∃ f, ⌜arg9.view.read (Elt Ideal) f = xbFun x1 x2⌝ ∗ (arg9.view.loc (c : Thread nD τ) ↦[arg9.view.set]{fullShare} f)) : sProp 𝕄) $$ [HS0]
    · iexists _
      isplitr
      swap
      · iexact HS0
      ipureintro
      exact hW _
    icases Hx with ⟨%f, %hf, H⟩
    obtain rfl := harg9.eq_unread hf
    iexact H
  ihave Hacc : (iprop(∃ f, ⌜arg10.view.read (Elt Ideal) f = accAt (xbFun x1 x2) x0 x3 x4 (i 1).val 11264⌝ ∗ (arg10.view.loc (c : Thread nD τ) ↦[arg10.view.set]{fullShare} f)) : sProp 𝕄) $$ [HS1]
  · iexists _
    isplitr
    swap
    · iexact HS1
    ipureintro
    rw [View.writes_append, trips_t1]
    refine (pb_read c i arg2 harg2 arg3 harg3 arg4 harg4 arg5 harg5 arg6 harg6 arg7 harg7 arg8 harg8 arg9 harg9 arg10 harg10 _ _ _ _ _ _ ?_ 44 (le_refl _)).trans ?_
    · exact zero_read arg10 _ _
    · rw [hW, harg2.read_unread, harg5.read_unread, harg6.read_unread]
  icases Hacc with ⟨%f, %hf, H⟩
  obtain rfl := harg10.eq_unread hf
  iexact H

end Cert.KernelIdeal.Gen

end
-- ==== Proof.Run31.lean ====
/- The last, narrower step of the contraction, after which the accumulator holds the whole sums. -/
module

public import proofs.«01_k».proof.Proof.Run30B
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A tile of 128 lanes of the finished accumulator, from row `o0` and lane `o1`. -/
def accTile (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (acc : Vec Ideal S1024x512 .f32) (o0 o1 : ℕ) (inb : ∀ a : Fin 2, (![o0, o1] : Fin 2 → ℕ) a + S128x128.size a ≤ S1024x512.size a) : Vec Ideal S128x128 .f32 :=
  View.readAt (Elt Ideal) arg10.view (Rect.unit (s := S1024x512) ![o0, o1] S128x128.size inb).toLoadRect (harg10.unread acc)

set_option maxHeartbeats 3100000 in
/-- The last step, and the first tile's two loads. -/
theorem part31_run (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole)
    (x0 : Vec Ideal S28x89 .f32) (x3 : Vec Ideal S256x11392 .fp8e4m3) (x4 : Vec Ideal S256x11392 .fp8e4m3) (xb : Vec Ideal S1024x11392 .bf16) (E : Set ℕ)
    (a1 v8 : BitVec 32) (v10 : Vec Ideal S1024x128 .bf16) (v32 : Vec Ideal S256x128 .bf16)
    (ha1 : a1 = BitVec.ofNat 32 (i 1).val) (hv8 : v8 = 11264#32) (hv10 : v10 = tail10 i arg2 harg2 arg3 harg3 arg4 harg4 arg5 harg5 arg6 harg6 arg7 harg7 arg8 harg8 arg9 harg9 arg10 harg10 xb) (hv32 : v32 = tail32 i arg2 harg2 arg3 harg3 arg4 harg4 arg5 harg5 arg6 harg6 arg7 harg7 arg8 harg8 arg9 harg9 arg10 harg10 x0 x3) :
    (iprop((arg2.view.loc (c : Thread nD τ) ↦[arg2.view.set]{fullShare} harg2.unread x0) ∗ (arg6.view.loc (c : Thread nD τ) ↦[arg6.view.set]{fullShare} harg6.unread x4) ∗ (arg10.view.loc (c : Thread nD τ) ↦[arg10.view.set]{fullShare} harg10.unread (accAt xb x0 x3 x4 (i 1).val 11264))) : sProp 𝕄)
      ⊢ wp frame (wpE (defs₀ (F := Ideal)) Variants.none c none) E (k0_part31 i arg2 harg2 arg3 harg3 arg4 harg4 arg5 harg5 arg6 harg6 arg7 harg7 arg8 harg8 arg9 harg9 arg10 harg10 a1 v8 v10 v32) (fun r => iprop(
        ⌜r.1 = accTile i arg2 harg2 arg3 harg3 arg4 harg4 arg5 harg5 arg6 harg6 arg7 harg7 arg8 harg8 arg9 harg9 arg10 harg10 (accAt xb x0 x3 x4 (i 1).val 11392) 0 0 inb_S1024x512_S128x128_0_0⌝
        ∗ ⌜r.2.1 = accTile i arg2 harg2 arg3 harg3 arg4 harg4 arg5 harg5 arg6 harg6 arg7 harg7 arg8 harg8 arg9 harg9 arg10 harg10 (accAt xb x0 x3 x4 (i 1).val 11392) 0 256 inb_S1024x512_S128x128_0_256⌝
        ∗ ⌜r.2.2 = k0_pay120 (accTile i arg2 harg2 arg3 harg3 arg4 harg4 arg5 harg5 arg6 harg6 arg7 harg7 arg8 harg8 arg9 harg9 arg10 harg10 (accAt xb x0 x3 x4 (i 1).val 11392) 0 0 inb_S1024x512_S128x128_0_0)⌝
        ∗ (arg2.view.loc (c : Thread nD τ) ↦[arg2.view.set]{fullShare} harg2.unread x0) ∗ (arg6.view.loc (c : Thread nD τ) ↦[arg6.view.set]{fullShare} harg6.unread x4) ∗ (arg10.view.loc (c : Thread nD τ) ↦[arg10.view.set]{fullShare} harg10.unread (accAt xb x0 x3 x4 (i 1).val 11392)))) := by
  subst ha1 hv8 hv10 hv32
  rw [k0_part31_eq_skeleton]; unfold k0_part31_skel
  iintro ⟨H0, H4, HS1⟩
  sl_exec
  sl_step
  have hn : (i 1).val < 7 := (i 1).isLt
  have hx : ∀ (r : Fin 1024) (q : Fin 128), tail10 i arg2 harg2 arg3 harg3 arg4 harg4 arg5 harg5 arg6 harg6 arg7 harg7 arg8 harg8 arg9 harg9 arg10 harg10 xb (ix2 r q) = rd xb r (11264 + q) := fun r q =>
    (readAt_ix2 arg9.view (harg9.unread xb) inb_S1024x11392_S1024x128_0_11264 rfl r q (by omega) (by omega)).trans (by
      rw [harg9.read_unread]
      exact (rd_of xb (by omega) (by omega)).symm.trans (by rw [Nat.zero_add]))
  have hW : ∀ f, arg10.view.read (Elt Ideal) (arg10.view.writes (Elt Ideal) f (part31_run.sl.HS1_2 i arg2 harg2 arg3 harg3 arg4 harg4 arg5 harg5 arg6 harg6 arg7 harg7 arg8 harg8 arg9 harg9 arg10 harg10 x0 x3 x4 xb))
      = accAt xb x0 x3 x4 (i 1).val 11392 := by
    intro f
    unfold part31_run.sl.HS1_2
    rw [View.read_writes_cons_put _ _ _ _ _ rfl, View.read_writes_cons_put _ _ _ _ _ rfl, View.writes_nil]
    refine accAt_step _ _ _ _ _ 11264 128 _ _ _ (fun r c => ?_) (fun r c => ?_)
    · refine (pay118_apply (x9 := xb) (ws := x0) (w := x3) (b := 2 * (i 1).val) (K := 11264) (by norm_num) hx ?_ ?_ ?_ ?_ _ r c).trans ?_
      · exact fun c q => (w_rd0 _ _ k0_off6_eq c q).trans (by rw [harg5.read_unread])
      · exact fun c q => (w_rd _ _ k0_off7_eq c q).trans (by rw [harg5.read_unread])
      · exact (scal_rd arg2 _ _ (k0_off5_eq i 0 0) _).trans (by rw [harg2.read_unread]; congr 1; simp)
      · exact (scal_rd arg2 _ _ (k0_off5_eq i 0 1) _).trans (by rw [harg2.read_unread]; congr 1; simp)
      · refine congrArg (· + _) ?_
        exact (readAt_ix2 arg10.view _ inb_S1024x512_S1024x256_0_0 rfl r c (by omega) (by omega)).trans
          (by rw [harg10.read_unread]; congr 2 <;> exact Fin.ext (Nat.zero_add _))
    · refine (pay119_apply (x9 := xb) (ws := x0) (w := x4) (b := 14 + 2 * (i 1).val) (K := 11264) (by norm_num) hx ?_ ?_ ?_ ?_ _ r c).trans ?_
      · exact fun c q => (w_rd0 _ _ k0_off6_eq c q).trans (by rw [harg6.read_unread])
      · exact fun c q => (w_rd _ _ k0_off7_eq c q).trans (by rw [harg6.read_unread])
      · exact (scal_rd arg2 _ _ (k0_off5_eq i 1 0) _).trans (by rw [harg2.read_unread]; congr 1)
      · exact (scal_rd arg2 _ _ (k0_off5_eq i 1 1) _).trans (by rw [harg2.read_unread]; congr 1)
      · refine congrArg (· + _) ?_
        exact (readAt_ix2 arg10.view _ inb_S1024x512_S1024x256_0_256 rfl r c (by omega) (by omega)).trans
          (by rw [harg10.read_unread]; congr 2 <;> exact Fin.ext (Nat.zero_add _))
  have e67 : part31_run.sl.v67 i arg2 harg2 arg3 harg3 arg4 harg4 arg5 harg5 arg6 harg6 arg7 harg7 arg8 harg8 arg9 harg9 arg10 harg10 x0 x3 x4 xb = accTile i arg2 harg2 arg3 harg3 arg4 harg4 arg5 harg5 arg6 harg6 arg7 harg7 arg8 harg8 arg9 harg9 arg10 harg10 (accAt xb x0 x3 x4 (i 1).val 11392) 0 0 inb_S1024x512_S128x128_0_0 := by
    unfold accTile
    rw [View.readAt_eq_ld, harg10.read_unread, ← hW arg10.view.junk]
    rfl
  have e68 : part31_run.sl.v68 i arg2 harg2 arg3 harg3 arg4 harg4 arg5 harg5 arg6 harg6 arg7 harg7 arg8 harg8 arg9 harg9 arg10 harg10 x0 x3 x4 xb = accTile i arg2 harg2 arg3 harg3 arg4 harg4 arg5 harg5 arg6 harg6 arg7 harg7 arg8 harg8 arg9 harg9 arg10 harg10 (accAt xb x0 x3 x4 (i 1).val 11392) 0 256 inb_S1024x512_S128x128_0_256 := by
    unfold accTile
    rw [View.readAt_eq_ld, harg10.read_unread, ← hW arg10.view.junk]
    rfl
  isplitr
  · ipureintro; exact e67
  isplitr
  · ipureintro; exact e68
  isplitr
  · ipureintro; exact congrArg k0_pay120 e67
  isplitl [H0]
  · iexact H0
  isplitl [H4]
  · iexact H4
  ihave Hacc : (iprop(∃ f, ⌜arg10.view.read (Elt Ideal) f = accAt xb x0 x3 x4 (i 1).val 11392⌝ ∗ (arg10.view.loc (c : Thread nD τ) ↦[arg10.view.set]{fullShare} f)) : sProp 𝕄) $$ [HS1]
  · iexists _
    isplitr
    swap
    · iexact HS1
    ipureintro
    exact hW _
  icases Hacc with ⟨%f, %hf, H⟩
  obtain rfl := harg10.eq_unread hf
  iexact H

end Cert.KernelIdeal.Gen

end
-- ==== Proof.Quant.lean ====
/- The quantiser of one group of 128 values, on extended reals: the search for the exponent field. -/
module

public import Idealize.ShloMosaic.PureOps.Ideal

@[expose] public section

noncomputable section

namespace Cert.Quant

open Idealize.ShloMosaic

/-- One halving step of the search for the greatest exponent field whose float is not above `t`. -/
def step (t : EReal) (f b : BitVec 32) : BitVec 32 :=
  if t < Ideal.ofBits FTy.f32 (f + b) then f else f + b

/-- The greatest word `k · 2^23` whose float is not above `t`. -/
def field (t : EReal) : BitVec 32 :=
  step t (step t (step t (step t (step t (step t (step t (step t 0#32 1073741824#32) 536870912#32)
    268435456#32) 134217728#32) 67108864#32) 33554432#32) 16777216#32) 8388608#32

/-- The word of the scale. -/
def word (t : EReal) : BitVec 32 :=
  if field t = 0#32 then 1065353216#32 else field t + 8388608#32

/-- The scale of a group whose greatest magnitude over 448 is `t`. -/
def scaleOf (t : EReal) : EReal := Ideal.ofBits FTy.f32 (word t)

/-- The code of a value `h` of a group whose greatest magnitude over 448 is `t`. -/
def codeOf (t h : EReal) : EReal :=
  min (Ideal.ofBits FTy.f32 0x43E00000#32) (max (Ideal.ofBits FTy.f32 0xC3E00000#32)
    (h * Ideal.ofBits FTy.f32 (2130706432#32 - word t)))

/-- The greatest magnitude of a group over 448. -/
def tOf (v : Fin 128 → EReal) : EReal :=
  Finset.fold max (Ideal.ofBits FTy.f32 0xFF800000#32) (fun l => FloatOps.absf (F := Ideal) (φ := .f32) (v l)) Finset.univ
    * Ideal.ofBits FTy.f32 0x3B124925#32

/-- The activation of a gate and an up value. -/
def hOf (g u : EReal) : EReal := g * Ideal.logistic g * u

end Cert.Quant

end
-- ==== Proof.Tile.lean ====
/- What one tile of 128 rows and 128 lanes writes. -/
module

public import proofs.«01_k».proof.Proof.Run31
public import proofs.«01_k».proof.Proof.Quant
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Quant

/-- One halving step of the search for the exponent field, on every row. -/
noncomputable def stepV (t : FVec Ideal S128x1 .f32) (f : IVec S128x1 32) (b : BitVec 32) : IVec S128x1 32 :=
  select (cmpf .olt t (bitcastToFloat .f32 (addi f (broadcast S128x1 b)))) f (addi f (broadcast S128x1 b))

/-- The exponent field of every row. -/
noncomputable def fieldV (t : FVec Ideal S128x1 .f32) : IVec S128x1 32 :=
  stepV t (stepV t (stepV t (stepV t (stepV t (stepV t (stepV t (stepV t (broadcast S128x1 0#32) 1073741824#32) 536870912#32)
    268435456#32) 134217728#32) 67108864#32) 33554432#32) 16777216#32) 8388608#32

/-- The word of every row's scale. -/
noncomputable def wordV (t : FVec Ideal S128x1 .f32) : IVec S128x1 32 :=
  select (cmpi .eq (fieldV t) (broadcast S128x1 0#32)) (broadcast S128x1 1065353216#32)
    (addi (fieldV t) (broadcast S128x1 8388608#32))

/-- The activations of one tile. -/
noncomputable def hV (g u : Vec Ideal S128x128 .f32) : FVec Ideal S128x128 .f32 := mulf (mulf g (logistic g)) u

/-- Every row's greatest magnitude over 448. -/
noncomputable def tV (h : FVec Ideal S128x128 .f32) : FVec Ideal S128x1 .f32 :=
  mulf (shapeCast S128x1 (multiReduction .maximumf [1] S128 (absf h) 0xFF800000#32 reduces_S128x128_S128 (.inl rfl) rfl)
    shapeCasts_S128_S128x1) (broadcast S128x1 (Scalar.ofBits .f32 0x3B124925#32))

/-- The codes of one tile. -/
noncomputable def codesTile (g u : Vec Ideal S128x128 .f32) : FVec Ideal S128x128 .fp8e4m3 :=
  k0_pay130 (hV g u) (wordV (tV (hV g u)))

/-- The fourteen scale lanes after tile `o` of a point. -/
noncomputable def scaleTile (o : BitVec 32) (g u : Vec Ideal S128x128 .f32) (a : BitVec 32) (old : Vec Ideal S128x14 .f32) : FVec Ideal S128x14 .f32 :=
  select (cmpi .eq (iota .tc S128x14 32 [1] iota_S128x14_d1_w32) (broadcast S128x14 (Scalar.addi (Scalar.muli a 2#32) o)))
    (broadcastTo S128x14 (shapeCast S128x1 (bitcastToFloat .f32 (wordV (tV (hV g u)))) shapeCasts_S128x1_S128x1) broadcasts_S128x1_S128x14)
    (shapeCast S128x14 old shapeCasts_S128x14_S128x14)

theorem stepV_apply (t : FVec Ideal S128x1 .f32) (f : IVec S128x1 32) (b : BitVec 32) (p : Fin 128) (q : Fin 1) :
    stepV t f b (ix2 p q) = step (t (ix2 p q)) (f (ix2 p q)) b := by
  pointwise [stepV, step]
  rfl

theorem fieldV_apply (t : FVec Ideal S128x1 .f32) (p : Fin 128) (q : Fin 1) :
    fieldV t (ix2 p q) = field (t (ix2 p q)) := by
  unfold fieldV field
  simp only [stepV_apply]
  rfl

theorem wordV_apply (t : FVec Ideal S128x1 .f32) (p : Fin 128) (q : Fin 1) :
    wordV t (ix2 p q) = word (t (ix2 p q)) := by
  unfold wordV word
  rw [← fieldV_apply]
  show (if (IntOp.cmpi CmpIPredicate.eq (fieldV t (ix2 p q)) 0#32) = 1#1 then _ else _) = _
  by_cases h : fieldV t (ix2 p q) = 0#32
  · rw [if_pos h, h]; rfl
  · rw [if_neg h, if_neg]
    · rfl
    · simp only [IntOp.cmpi, beq_eq_false_iff_ne.mpr h]; decide

theorem hV_apply (g u : Vec Ideal S128x128 .f32) (p q : Fin 128) :
    hV g u (ix2 p q) = hOf (g (ix2 p q)) (u (ix2 p q)) := by
  pointwise [hV, hOf]

theorem tV_apply (h : FVec Ideal S128x128 .f32) (p : Fin 128) (q : Fin 1) :
    tV h (ix2 p q) = tOf (fun l => h (ix2 p l)) := by
  pointwise [tV, tOf]

theorem codesTile_apply (g u : Vec Ideal S128x128 .f32) (p q : Fin 128) :
    codesTile g u (ix2 p q) = codeOf (tOf fun l => hOf (g (ix2 p l)) (u (ix2 p l))) (hOf (g (ix2 p q)) (u (ix2 p q))) := by
  have e : codesTile g u (ix2 p q) = codeOf (tV (hV g u) (ix2 p 0)) (hV g u (ix2 p q)) := by
    unfold codeOf
    rw [← wordV_apply]
    unfold codesTile
    pointwise [k0_pay130]
    rfl
  rw [e, tV_apply, hV_apply]
  simp only [hV_apply]

theorem scaleTile_apply (o : BitVec 32) (g u : Vec Ideal S128x128 .f32) (a : BitVec 32) (old : Vec Ideal S128x14 .f32) (p : Fin 128) (q : Fin 14) :
    scaleTile o g u a old (ix2 p q) = if BitVec.ofNat 32 q.val = a * 2#32 + o then scaleOf (tOf fun l => hOf (g (ix2 p l)) (u (ix2 p l))) else old (ix2 p q) := by
  have e : scaleTile o g u a old (ix2 p q) = Scalar.select (IntOp.cmpi CmpIPredicate.eq (BitVec.ofNat 32 q.val) (Scalar.addi (Scalar.muli a 2#32) o))
      (Ideal.ofBits FTy.f32 (wordV (tV (hV g u)) (ix2 p 0))) (old (ix2 p q)) := by
    pointwise [scaleTile]
  rw [e, wordV_apply, tV_apply]
  simp only [hV_apply]
  show (if (IntOp.cmpi CmpIPredicate.eq (BitVec.ofNat 32 q.val) (a * 2#32 + o)) = 1#1 then _ else _) = _
  by_cases h : BitVec.ofNat 32 q.val = a * 2#32 + o
  · rw [if_pos h, if_pos]
    · rfl
    · simp [IntOp.cmpi, h]
  · rw [if_neg h, if_neg]
    simp only [IntOp.cmpi, beq_eq_false_iff_ne.mpr h]; decide

end Cert.KernelIdeal.Gen

end
-- ==== Proof.Block.lean ====
/- What one grid point leaves in the two result blocks, from the finished accumulator. -/
module

public import proofs.«01_k».proof.Proof.Tile
public import Idealize.ShloMosaic.Lib.Pipeline.ReadBack
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Quant

/-- The activations of the group of 128 lanes `j` of row `r` of a finished accumulator. -/
noncomputable def gBlk (acc : Vec Ideal S1024x512 .f32) (r j : ℕ) : Fin 128 → EReal :=
  fun l => hOf (rd acc r (128 * j + l.val)) (rd acc r (256 + 128 * j + l.val))

/-- The block of codes of a grid point. -/
noncomputable def codesBlk (acc : Vec Ideal S1024x512 .f32) : Vec Ideal S1024x256 .fp8e4m3 := fun y =>
  codeOf (tOf (gBlk acc (y 0).val ((y 1).val / 128))) (hOf (rd acc (y 0).val (y 1).val) (rd acc (y 0).val (256 + (y 1).val)))

/-- The block of scales after grid point `n` of a row block, from the block `xo` before it. -/
noncomputable def scaleBlk (n : ℕ) (acc : Vec Ideal S1024x512 .f32) (xo : Vec Ideal S1024x14 .f32) : Vec Ideal S1024x14 .f32 := fun y =>
  if 2 * n ≤ (y 1).val ∧ (y 1).val < 2 * n + 2 then scaleOf (tOf (gBlk acc (y 0).val ((y 1).val - 2 * n))) else xo y

theorem lane_iff (n o lane : ℕ) (hn : n < 7) (ho : o < 2) (hl : lane < 14) :
    BitVec.ofNat 32 lane = BitVec.ofNat 32 n * 2#32 + BitVec.ofNat 32 o ↔ lane = 2 * n + o := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

section
variable (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole)
variable (acc : Vec Ideal S1024x512 .f32)

theorem accTile_apply (o0 o1 : ℕ) (inb : ∀ a : Fin 2, (![o0, o1] : Fin 2 → ℕ) a + S128x128.size a ≤ S1024x512.size a) (p q : Fin 128) :
    accTile i arg2 harg2 arg3 harg3 arg4 harg4 arg5 harg5 arg6 harg6 arg7 harg7 arg8 harg8 arg9 harg9 arg10 harg10 acc o0 o1 inb (ix2 p q) = rd acc (o0 + p.val) (o1 + q.val) := by
  have h0 : o0 + 128 ≤ 1024 := inb 0
  have h1 : o1 + 128 ≤ 512 := inb 1
  have hp : o0 + p.val < 1024 := by omega
  have hq : o1 + q.val < 512 := by omega
  refine (readAt_ix2 arg10.view (harg10.unread acc) inb rfl p q hp hq).trans ?_
  rw [harg10.read_unread]
  exact (rd_of acc hp hq).symm

theorem gBlk_tile (o0 o1 o2 j : ℕ) (h1 : o1 = 128 * j) (h2 : o2 = 256 + 128 * j) (inb inb') (p : Fin 128) :
    (fun l : Fin 128 => hOf (accTile i arg2 harg2 arg3 harg3 arg4 harg4 arg5 harg5 arg6 harg6 arg7 harg7 arg8 harg8 arg9 harg9 arg10 harg10 acc o0 o1 inb (ix2 p l)) (accTile i arg2 harg2 arg3 harg3 arg4 harg4 arg5 harg5 arg6 harg6 arg7 harg7 arg8 harg8 arg9 harg9 arg10 harg10 acc o0 o2 inb' (ix2 p l))) = gBlk acc (o0 + p.val) j := by
  subst h1 h2
  funext l
  rw [accTile_apply, accTile_apply]
  rfl

/-- The codes of a tile are that tile of the block of codes. -/
theorem codesTile_eq (o0 o1 o2 j : ℕ) (h1 : o1 = 128 * j) (h2 : o2 = 256 + 128 * j) (inb inb')
    (inb7 : ∀ a : Fin 2, (![o0, o1] : Fin 2 → ℕ) a + S128x128.size a ≤ S1024x256.size a)
    (x : (Rect.unit (s := S1024x256) ![o0, o1] S128x128.size inb7).shape.Idx) :
    codesTile (accTile i arg2 harg2 arg3 harg3 arg4 harg4 arg5 harg5 arg6 harg6 arg7 harg7 arg8 harg8 arg9 harg9 arg10 harg10 acc o0 o1 inb) (accTile i arg2 harg2 arg3 harg3 arg4 harg4 arg5 harg5 arg6 harg6 arg7 harg7 arg8 harg8 arg9 harg9 arg10 harg10 acc o0 o2 inb') x
      = codesBlk acc ((Rect.unit (s := S1024x256) ![o0, o1] S128x128.size inb7).emb x) := by
  obtain ⟨p, q, rfl⟩ : ∃ (p q : Fin 128), x = ix2 p q := ⟨x 0, x 1, eq_ix2 (x : S128x128.Idx)⟩
  have b0 : o0 + 128 ≤ 1024 := inb7 0
  have b1 : o1 + 128 ≤ 256 := inb7 1
  have hp : o0 + p.val < 1024 := by omega
  have hq : o1 + q.val < 256 := by omega
  have e : (Rect.unit (s := S1024x256) ![o0, o1] S128x128.size inb7).emb (ix2 p q) = ix2 ⟨o0 + p.val, hp⟩ ⟨o1 + q.val, hq⟩ := by
    funext a
    match a with
    | 0 => exact Fin.ext (show o0 + 1 * p.val = o0 + p.val by omega)
    | 1 => exact Fin.ext (show o1 + 1 * q.val = o1 + q.val by omega)
  refine (codesTile_apply _ _ p q).trans (Eq.trans ?_ (congrArg (codesBlk acc) e).symm)
  rw [gBlk_tile (acc := acc) (o0 := o0) (o1 := o1) (o2 := o2) (j := j) (h1 := h1) (h2 := h2), accTile_apply, accTile_apply]
  show _ = codeOf (tOf (gBlk acc (o0 + p.val) ((o1 + q.val) / 128))) (hOf (rd acc (o0 + p.val) (o1 + q.val)) (rd acc (o0 + p.val) (256 + (o1 + q.val))))
  rw [show (o1 + q.val) / 128 = j by omega, show 256 + (o1 + q.val) = o2 + q.val by omega]

/-- The scale lanes of 128 rows after both tiles of a point. -/
theorem scaleTile_eq (hi : (i 1).val < 7) (xo : Vec Ideal S1024x14 .f32) (o0 : ℕ) (inb0 inb1 inb2 inb3)
    (inb8 : ∀ a : Fin 2, (![o0, 0] : Fin 2 → ℕ) a + S128x14.size a ≤ S1024x14.size a) (L : List (View.Piece (Elt Ideal) S1024x14 .f32))
    (p : Fin 128) (q : Fin 14) (r : Fin 1024) (hr : r.val = o0 + p.val) :
    scaleTile 1#32 (accTile i arg2 harg2 arg3 harg3 arg4 harg4 arg5 harg5 arg6 harg6 arg7 harg7 arg8 harg8 arg9 harg9 arg10 harg10 acc o0 128 inb0) (accTile i arg2 harg2 arg3 harg3 arg4 harg4 arg5 harg5 arg6 harg6 arg7 harg7 arg8 harg8 arg9 harg9 arg10 harg10 acc o0 384 inb1) (BitVec.ofNat 32 (i 1).val)
        (View.readCov (Val := Elt Ideal) arg8.view (⟨Rect.unit (s := S1024x14) ![o0, 0] S128x14.size inb8,
          scaleTile 0#32 (accTile i arg2 harg2 arg3 harg3 arg4 harg4 arg5 harg5 arg6 harg6 arg7 harg7 arg8 harg8 arg9 harg9 arg10 harg10 acc o0 0 inb2) (accTile i arg2 harg2 arg3 harg3 arg4 harg4 arg5 harg5 arg6 harg6 arg7 harg7 arg8 harg8 arg9 harg9 arg10 harg10 acc o0 256 inb3) (BitVec.ofNat 32 (i 1).val)
            (View.readAt (Elt Ideal) arg8.view (Rect.unit (s := S1024x14) ![o0, 0] S128x14.size inb8).toLoadRect (harg8.unread xo))⟩ :: L)
          (Rect.unit (s := S1024x14) ![o0, 0] S128x14.size inb8).toLoadRect) (ix2 p q)
      = scaleBlk (i 1).val acc xo (ix2 r q) := by
  have l1 := lane_iff (i 1).val 1 q.val hi (by omega) q.isLt
  have l0 := lane_iff (i 1).val 0 q.val hi (by omega) q.isLt
  rw [scaleTile_apply, gBlk_tile (acc := acc) (o0 := o0) (o1 := 128) (o2 := 384) (j := 1) (h1 := rfl) (h2 := rfl), View.readCov_cons_toLoadRect,
    scaleTile_apply, gBlk_tile (acc := acc) (o0 := o0) (o1 := 0) (o2 := 256) (j := 0) (h1 := rfl) (h2 := rfl)]
  show _ = if 2 * (i 1).val ≤ q.val ∧ q.val < 2 * (i 1).val + 2 then scaleOf (tOf (gBlk acc r.val (q.val - 2 * (i 1).val))) else xo (ix2 r q)
  rw [hr]
  by_cases h1 : q.val = 2 * (i 1).val + 1
  · rw [if_pos (l1.mpr h1), if_pos (by omega), show q.val - 2 * (i 1).val = 1 by omega]
  · rw [if_neg (fun h => h1 (l1.mp h))]
    by_cases h0 : q.val = 2 * (i 1).val + 0
    · rw [if_pos (l0.mpr h0), if_pos (by omega), show q.val - 2 * (i 1).val = 0 by omega]
    · rw [if_neg (fun h => h0 (l0.mp h)), if_neg (by omega)]
      refine (readAt_ix2 arg8.view (harg8.unread xo) inb8 rfl p q (by omega) (by omega)).trans ?_
      rw [harg8.read_unread]
      exact congrArg xo (congrArg₂ ix2 (Fin.ext hr.symm) (Fin.ext (Nat.zero_add _)))

end

/-- A row read through the two stores of its 128 rows, of which the later is `T`; and an earlier row read past them. -/
theorem read_pair (v : View sig .tc .vmem S1024x14 .f32) (f) (T : Vec Ideal S1024x14 .f32) (o0 : ℕ)
    (inb8 inb8' : ∀ a : Fin 2, (![o0, 0] : Fin 2 → ℕ) a + S128x14.size a ≤ S1024x14.size a) (w w' : Vec Ideal S128x14 .f32)
    (L : List (View.Piece (Elt Ideal) S1024x14 .f32))
    (hw : ∀ (p : Fin 128) (q : Fin 14) (r : Fin 1024), r.val = o0 + p.val → w (ix2 p q) = T (ix2 r q))
    (hL : ∀ (r : Fin 1024) (q : Fin 14), r.val < o0 → v.read (Elt Ideal) (v.writes (Elt Ideal) f L) (ix2 r q) = T (ix2 r q))
    (r : Fin 1024) (q : Fin 14) (hr : r.val < o0 + 128) :
    v.read (Elt Ideal) (v.writes (Elt Ideal) f (⟨Rect.unit (s := S1024x14) ![o0, 0] S128x14.size inb8, w⟩ :: ⟨Rect.unit (s := S1024x14) ![o0, 0] S128x14.size inb8', w'⟩ :: L)) (ix2 r q) = T (ix2 r q) := by
  by_cases h : o0 ≤ r.val
  · have hp : r.val - o0 < 128 := by omega
    refine (View.read_writes_cons_unit_of_mem v f inb8 w _ (ix2 r q) (ix2 (⟨r.val - o0, hp⟩ : Fin 128) q) rfl ?_).trans (hw _ q r ?_)
    · intro a
      match a with
      | 0 => show r.val = o0 + (r.val - o0); omega
      | 1 => exact (Nat.zero_add _).symm
    · show r.val = o0 + (r.val - o0); omega
  · rw [View.read_writes_cons_unit_of_not_mem v f inb8 w _ (ix2 r q) rfl 0 (.inl (show r.val < o0 by omega)),
      View.read_writes_cons_unit_of_not_mem v f inb8' w' _ (ix2 r q) rfl 0 (.inl (show r.val < o0 by omega))]
    exact hL r q (by omega)

/-- An array read through stores that cover it and each write its part of `T` is `T`. -/
theorem read_pieces (v : View sig .tc .vmem S1024x256 .fp8e4m3) (f) (T : Vec Ideal S1024x256 .fp8e4m3)
    (L : List (View.Piece (Elt Ideal) S1024x256 .fp8e4m3)) (hcov : ∀ y, ∃ p ∈ L, y ∈ p.1.set) (hp : View.PiecesOf T L) :
    v.read (Elt Ideal) (v.writes (Elt Ideal) f L) = T := by
  rw [View.read_writes_eq_canon _ _ _ hcov]
  funext y
  have := View.canon_append_of_piecesOf T [] _ hp y (hcov y)
  rwa [List.append_nil] at this

end Cert.KernelIdeal.Gen

end
-- ==== Proof.Body.lean ====
/- The body of one grid point, whole: from the blocks and scratch at its start to those at its end. -/
module

public import proofs.«01_k».proof.Proof.Run30A
public import proofs.«01_k».proof.Proof.Block
public import Idealize.ShloMosaic.Lib.Pipeline.FrameBody
public import Idealize.ShloMosaic.Lib.Ring
public import Idealize.ShloMosaic.Lib.Pipeline.ReadBack
public import Idealize.ShloMosaic.Lib.Tactic
public import Idealize.ShloMosaic.Lib.WordCmp

@[expose] public section

set_option maxRecDepth 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 3100000 in
/-- The body, whose first part is given: the codes and the scale lanes of the point are written. -/
theorem body_run (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole)
    (x0 : Vec Ideal S28x89 .f32) (x1 : Vec Ideal S1024x11392 .fp8e4m3) (x2 : Vec Ideal S1024x89 .f32) (x3 : Vec Ideal S256x11392 .fp8e4m3) (x4 : Vec Ideal S256x11392 .fp8e4m3)
    (xb : Vec Ideal S1024x11392 .bf16) (xo : Vec Ideal S1024x14 .f32) (R9 : sProp 𝕄)
    (h30 : ∀ E : Set ℕ, (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ R9 ∗ (∃ f, (arg10.view.loc (c : Thread nD τ) ↦[arg10.view.set]{fullShare} f))) : sProp 𝕄)
      ⊢ wp frame (wpE (defs₀ (F := Ideal)) Variants.none c none) E (k0_part30 i arg2 harg2 arg3 harg3 arg4 harg4 arg5 harg5 arg6 harg6 arg7 harg7 arg8 harg8 arg9 harg9 arg10 harg10) (fun r => iprop(
        ⌜r.1 = BitVec.ofNat 32 (i 1).val⌝ ∗ ⌜r.2.1 = 11264#32⌝ ∗ ⌜r.2.2.1 = tail10 i arg2 harg2 arg3 harg3 arg4 harg4 arg5 harg5 arg6 harg6 arg7 harg7 arg8 harg8 arg9 harg9 arg10 harg10 xb⌝ ∗ ⌜r.2.2.2 = tail32 i arg2 harg2 arg3 harg3 arg4 harg4 arg5 harg5 arg6 harg6 arg7 harg7 arg8 harg8 arg9 harg9 arg10 harg10 x0 x3⌝
        ∗ (arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread xb) ∗ (arg10.view.loc (c : Thread nD τ) ↦[arg10.view.set]{fullShare} harg10.unread (accAt xb x0 x3 x4 (i 1).val 11264)))))
    (E : Set ℕ) (K : PUnit → sProp 𝕄) :
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (∃ f, (arg7.view.loc (c : Thread nD τ) ↦[arg7.view.set]{fullShare} f)) ∗ (arg8.view.loc (c : Thread nD τ) ↦[arg8.view.set]{fullShare} harg8.unread xo) ∗ R9 ∗ (∃ f, (arg10.view.loc (c : Thread nD τ) ↦[arg10.view.set]{fullShare} f))
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread (codesBlk (accAt xb x0 x3 x4 (i 1).val 11392))) ∗ (arg8.view.loc (c : Thread nD τ) ↦[arg8.view.set]{fullShare} harg8.unread (scaleBlk (i 1).val (accAt xb x0 x3 x4 (i 1).val 11392) xo)) ∗ (arg9.view.loc (c : Thread nD τ) ↦[arg9.view.set]{fullShare} harg9.unread xb) ∗ (arg10.view.loc (c : Thread nD τ) ↦[arg10.view.set]{fullShare} harg10.unread (accAt xb x0 x3 x4 (i 1).val 11392))) -∗ K ⟨⟩))
          ⊢ wp frame (wpE (defs₀ (F := Ideal)) Variants.none c none) E (cc0__body i arg2 harg2 arg3 harg3 arg4 harg4 arg5 harg5 arg6 harg6 arg7 harg7 arg8 harg8 arg9 harg9 arg10 harg10) K := by
    simp only [cc0__body_eq_skeleton]; unfold cc0__body_skel
    simp only [k0_part61_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    iintro ⟨H0, H1, H2, H3, H4, ⟨%f7, H5⟩, H6, HR, ⟨%f10, HS1⟩, Hk⟩
    have h31 := part31_run c i arg2 harg2 arg3 harg3 arg4 harg4 arg5 harg5 arg6 harg6 arg7 harg7 arg8 harg8 arg9 harg9 arg10 harg10 x0 x3 x4 xb
    sl_exec
    sl_step
    subst_vars
    iapply Hk
    have ct := fun o0 o1 o2 j h1 h2 inb inb' inb7 x => codesTile_eq (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (acc := (accAt xb x0 x3 x4 (i 1).val 11392)) (o0 := o0) (o1 := o1) (o2 := o2) (j := j) (h1 := h1) (h2 := h2) (inb := inb) (inb' := inb') (inb7 := inb7) (x := x)
    have st := fun o0 inb0 inb1 inb2 inb3 inb8 L p q r hr => scaleTile_eq (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (acc := (accAt xb x0 x3 x4 (i 1).val 11392)) (hi := (i 1).isLt) (xo := xo) (o0 := o0) (inb0 := inb0) (inb1 := inb1) (inb2 := inb2) (inb3 := inb3) (inb8 := inb8) (L := L) (p := p) (q := q) (r := r) (hr := hr)
    isplitl [Hk0_part31_3]
    · iexact Hk0_part31_3
    isplitl [Hk0_part30_5]
    · iexact Hk0_part30_5
    isplitl [Hk0_part30_6]
    · iexact Hk0_part30_6
    isplitl [Hk0_part30_7]
    · iexact Hk0_part30_7
    isplitl [Hk0_part31_4]
    · iexact Hk0_part31_4
    isplitl [H5]
    · ihave Hx : (iprop(∃ f, ⌜arg7.view.read (Elt Ideal) f = codesBlk (accAt xb x0 x3 x4 (i 1).val 11392)⌝ ∗ (arg7.view.loc (c : Thread nD τ) ↦[arg7.view.set]{fullShare} f)) : sProp 𝕄) $$ [H5]
      · iexists _
        isplitr
        swap
        · iexact H5
        ipureintro
        exact read_pieces _ _ _ _ (View.cover_of_tiledL _ S128x128.size (by sl_kernel_rfl)) ⟨ct 896 128 384 1 rfl rfl (by decide) (by decide) (by decide), ct 896 0 256 0 rfl rfl (by decide) (by decide) (by decide), ct 768 128 384 1 rfl rfl (by decide) (by decide) (by decide), ct 768 0 256 0 rfl rfl (by decide) (by decide) (by decide), ct 640 128 384 1 rfl rfl (by decide) (by decide) (by decide), ct 640 0 256 0 rfl rfl (by decide) (by decide) (by decide), ct 512 128 384 1 rfl rfl (by decide) (by decide) (by decide), ct 512 0 256 0 rfl rfl (by decide) (by decide) (by decide), ct 384 128 384 1 rfl rfl (by decide) (by decide) (by decide), ct 384 0 256 0 rfl rfl (by decide) (by decide) (by decide), ct 256 128 384 1 rfl rfl (by decide) (by decide) (by decide), ct 256 0 256 0 rfl rfl (by decide) (by decide) (by decide), ct 128 128 384 1 rfl rfl (by decide) (by decide) (by decide), ct 128 0 256 0 rfl rfl (by decide) (by decide) (by decide), ct 0 128 384 1 rfl rfl (by decide) (by decide) (by decide), ct 0 0 256 0 rfl rfl (by decide) (by decide) (by decide), trivial⟩
      icases Hx with ⟨%f, %hf, H⟩
      obtain rfl := harg7.eq_unread hf
      iexact H
    isplitl [H6]
    · ihave Hx : (iprop(∃ f, ⌜arg8.view.read (Elt Ideal) f = scaleBlk (i 1).val (accAt xb x0 x3 x4 (i 1).val 11392) xo⌝ ∗ (arg8.view.loc (c : Thread nD τ) ↦[arg8.view.set]{fullShare} f)) : sProp 𝕄) $$ [H6]
      · iexists _
        isplitr
        swap
        · iexact H6
        ipureintro
        funext y
        obtain ⟨r, q, rfl⟩ : ∃ (r : Fin 1024) (q : Fin 14), y = ix2 r q := ⟨y 0, y 1, eq_ix2 y⟩
        exact read_pair _ _ _ 896 _ _ _ _ _ (fun p q r hr => st 896 (by decide) (by decide) (by decide) (by decide) (by decide) _ p q r hr) (read_pair _ _ _ 768 _ _ _ _ _ (fun p q r hr => st 768 (by decide) (by decide) (by decide) (by decide) (by decide) _ p q r hr) (read_pair _ _ _ 640 _ _ _ _ _ (fun p q r hr => st 640 (by decide) (by decide) (by decide) (by decide) (by decide) _ p q r hr) (read_pair _ _ _ 512 _ _ _ _ _ (fun p q r hr => st 512 (by decide) (by decide) (by decide) (by decide) (by decide) _ p q r hr) (read_pair _ _ _ 384 _ _ _ _ _ (fun p q r hr => st 384 (by decide) (by decide) (by decide) (by decide) (by decide) _ p q r hr) (read_pair _ _ _ 256 _ _ _ _ _ (fun p q r hr => st 256 (by decide) (by decide) (by decide) (by decide) (by decide) _ p q r hr) (read_pair _ _ _ 128 _ _ _ _ _ (fun p q r hr => st 128 (by decide) (by decide) (by decide) (by decide) (by decide) _ p q r hr) (read_pair _ _ _ 0 _ _ _ _ _ (fun p q r hr => st 0 (by decide) (by decide) (by decide) (by decide) (by decide) _ p q r hr) (fun r q h => absurd h (by omega))))))))) r q (by omega)
      icases Hx with ⟨%f, %hf, H⟩
      obtain rfl := harg8.eq_unread hf
      iexact H
    isplitl [Hk0_part30_9]
    · iexact Hk0_part30_9
    iexact Hk0_part31_5

end Cert.KernelIdeal.Gen

end
-- ==== Proof.Cases.lean ====
/- The body of one grid point with its buffers owned at their contents, in its two cases: the first point of a row block,
   which fills the scratch with the scaled activations, and every other point. -/
module

public import proofs.«01_k».proof.Proof.Body
public import Idealize.ShloMosaic.Lib.Pipeline.FrameBody
public import Idealize.ShloMosaic.Lib.Ring
public import Idealize.ShloMosaic.Lib.Pipeline.ReadBack
public import Idealize.ShloMosaic.Lib.Tactic
public import Idealize.ShloMosaic.Lib.WordCmp

@[expose] public section

set_option maxRecDepth 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 3100000 in
/-- The body at the first point of a row block: it fills the scratch. -/
theorem run_A (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : cond0_0 i)
    (x0 : Vec Ideal S28x89 .f32) (x1 : Vec Ideal S1024x11392 .fp8e4m3) (x2 : Vec Ideal S1024x89 .f32) (x3 : Vec Ideal S256x11392 .fp8e4m3) (x4 : Vec Ideal S256x11392 .fp8e4m3) (xo : Vec Ideal S1024x14 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesBlk (accAt (xbFun x1 x2) x0 x3 x4 (i 1).val 11392)) ∗ owns (c : Thread nD τ) arg8 fullShare (scaleBlk (i 1).val (accAt (xbFun x1 x2) x0 x3 x4 (i 1).val 11392) xo) ∗ owns (c : Thread nD τ) arg9 fullShare (xbFun x1 x2) ∗ (∃ d, owns (c : Thread nD τ) arg10 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10) K := by
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8
  iapply (body_run c i arg2 harg2 arg3 harg3 arg4 harg4 arg5 harg5 arg6 harg6 arg7 harg7 arg8 harg8 arg9 harg9 arg10 harg10 x0 x1 x2 x3 x4 (xbFun x1 x2) xo (iprop(∃ f, (arg9.view.loc (c : Thread nD τ) ↦[arg9.view.set]{fullShare} f)) : sProp 𝕄) (fun E => part30_A c i arg2 harg2 arg3 harg3 arg4 harg4 arg5 harg5 arg6 harg6 arg7 harg7 arg8 harg8 arg9 harg9 arg10 harg10 hc0 x0 x1 x2 x3 x4 E) E K)
  isplitl [H0]; · iexact H0
  isplitl [H1]; · iexact H1
  isplitl [H2]; · iexact H2
  isplitl [H3]; · iexact H3
  isplitl [H4]; · iexact H4
  isplitl [H7]; · iexists f7; iexact H7
  isplitl [H8]; · iexact H8
  isplitl [H9]
  · iexists f9; iexact H9
  isplitl [H10]; · iexists f10; iexact H10
  iintro ⟨H0, H1, H2, H3, H4, H7, H8, H9, H10⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _, _; isplitr; swap; · iexact H10
  ipureintro; rfl

set_option maxHeartbeats 3100000 in
/-- The body at any other point: the scratch is already filled. -/
theorem run_B (c : Dev nD) (i : grid0.Coords) (arg2 : Memref sig .tc .smem S28x89 .f32) (harg2 : arg2.IsWhole) (arg3 : Memref sig .tc .vmem S1024x11392 .fp8e4m3) (harg3 : arg3.IsWhole) (arg4 : Memref sig .tc .vmem S1024x89 .f32) (harg4 : arg4.IsWhole) (arg5 : Memref sig .tc .vmem S256x11392 .fp8e4m3) (harg5 : arg5.IsWhole) (arg6 : Memref sig .tc .vmem S256x11392 .fp8e4m3) (harg6 : arg6.IsWhole) (arg7 : Memref sig .tc .vmem S1024x256 .fp8e4m3) (harg7 : arg7.IsWhole) (arg8 : Memref sig .tc .vmem S1024x14 .f32) (harg8 : arg8.IsWhole) (arg9 : Memref sig .tc .vmem S1024x11392 .bf16) (harg9 : arg9.IsWhole) (arg10 : Memref sig .tc .vmem S1024x512 .f32) (harg10 : arg10.IsWhole) (hc0 : ¬ cond0_0 i)
    (x0 : Vec Ideal S28x89 .f32) (x1 : Vec Ideal S1024x11392 .fp8e4m3) (x2 : Vec Ideal S1024x89 .f32) (x3 : Vec Ideal S256x11392 .fp8e4m3) (x4 : Vec Ideal S256x11392 .fp8e4m3) (xb : Vec Ideal S1024x11392 .bf16) (xo : Vec Ideal S1024x14 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo ∗ owns (c : Thread nD τ) arg9 fullShare xb ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesBlk (accAt xb x0 x3 x4 (i 1).val 11392)) ∗ owns (c : Thread nD τ) arg8 fullShare (scaleBlk (i 1).val (accAt xb x0 x3 x4 (i 1).val 11392) xo) ∗ owns (c : Thread nD τ) arg9 fullShare xb ∗ (∃ d, owns (c : Thread nD τ) arg10 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10) K := by
  have h30 : ∀ E : Set ℕ, (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread xb) ∗ (∃ f, (arg10.view.loc (c : Thread nD τ) ↦[arg10.view.set]{fullShare} f))) : sProp 𝕄)
      ⊢ wp frame (wpE (defs₀ (F := Ideal)) Variants.none c none) E (k0_part30 i arg2 harg2 arg3 harg3 arg4 harg4 arg5 harg5 arg6 harg6 arg7 harg7 arg8 harg8 arg9 harg9 arg10 harg10) (fun r => iprop(
        ⌜r.1 = BitVec.ofNat 32 (i 1).val⌝ ∗ ⌜r.2.1 = 11264#32⌝ ∗ ⌜r.2.2.1 = tail10 i arg2 harg2 arg3 harg3 arg4 harg4 arg5 harg5 arg6 harg6 arg7 harg7 arg8 harg8 arg9 harg9 arg10 harg10 xb⌝ ∗ ⌜r.2.2.2 = tail32 i arg2 harg2 arg3 harg3 arg4 harg4 arg5 harg5 arg6 harg6 arg7 harg7 arg8 harg8 arg9 harg9 arg10 harg10 x0 x3⌝
        ∗ (arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg9.view.loc (c : Thread nD τ) ↦[arg9.view.set]{fullShare} harg9.unread xb) ∗ (arg10.view.loc (c : Thread nD τ) ↦[arg10.view.set]{fullShare} harg10.unread (accAt xb x0 x3 x4 (i 1).val 11264)))) := by
    intro E
    refine BI.Entails.trans ?_ ((BIClass.sep_mono (part30_B c i arg2 harg2 arg3 harg3 arg4 harg4 arg5 harg5 arg6 harg6 arg7 harg7 arg8 harg8 arg9 harg9 arg10 harg10 hc0 x0 x3 x4 xb E) (.rfl : (iprop((arg3.view.loc (c : Thread nD τ) ↦[arg3.view.set]{fullShare} harg3.unread x1) ∗ (arg4.view.loc (c : Thread nD τ) ↦[arg4.view.set]{fullShare} harg4.unread x2)) : sProp 𝕄) ⊢ _)).trans ((wp_frame_r _ _ _).trans (wp_mono _ _ _ fun r => ?_)))
    · show (_ : sProp 𝕄) ⊢ _
      iintro ⟨H0, H1, H2, H3, H4, H9, H10⟩
      isplitl [H0 H3 H4 H9 H10]
      · isplitl [H0]; · iexact H0
        isplitl [H3]; · iexact H3
        isplitl [H4]; · iexact H4
        isplitl [H9]; · iexact H9
        iexact H10
      isplitl [H1]; · iexact H1
      iexact H2
    show (_ : sProp 𝕄) ⊢ _
    iintro ⟨⟨%e1, %e2, %e3, %e4, H0, H3, H4, H9, H10⟩, H1, H2⟩
    isplitr; · ipureintro; exact e1
    isplitr; · ipureintro; exact e2
    isplitr; · ipureintro; exact e3
    isplitr; · ipureintro; exact e4
    isplitl [H0]; · iexact H0
    isplitl [H1]; · iexact H1
    isplitl [H2]; · iexact H2
    isplitl [H3]; · iexact H3
    isplitl [H4]; · iexact H4
    isplitl [H9]; · iexact H9
    iexact H10
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg9.eq_unread hf9
  iapply (body_run c i arg2 harg2 arg3 harg3 arg4 harg4 arg5 harg5 arg6 harg6 arg7 harg7 arg8 harg8 arg9 harg9 arg10 harg10 x0 x1 x2 x3 x4 xb xo (arg9.view.loc (c : Thread nD τ) ↦[arg9.view.set]{fullShare} harg9.unread xb) h30 E K)
  isplitl [H0]; · iexact H0
  isplitl [H1]; · iexact H1
  isplitl [H2]; · iexact H2
  isplitl [H3]; · iexact H3
  isplitl [H4]; · iexact H4
  isplitl [H7]; · iexists f7; iexact H7
  isplitl [H8]; · iexact H8
  isplitl [H9]
  · iexact H9
  isplitl [H10]; · iexists f10; iexact H10
  iintro ⟨H0, H1, H2, H3, H4, H7, H8, H9, H10⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _, _; isplitr; swap; · iexact H10
  ipureintro; rfl

end Cert.KernelIdeal.Gen

end
-- ==== Proof.Blocks.lean ====
/- The blocks of the kernel's input arrays at each grid point, entry by entry: point `t` works on row block `t / 7` of the
   activations and on the pair of weight row blocks `t % 7`. -/
module

public import proofs.«01_k».proof.Proof.Kit
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]
variable (m : (ℓ : Loc nD τ sig) → Buf (Elt F) ℓ)

/-- The block each window is at, at every point. -/
theorem idx : ∀ t : Fin grid0.N, win0_0.index t = ![0, 0] ∧ win0_1.index t = ![t.val / 7, 0] ∧ win0_2.index t = ![t.val / 7, 0]
    ∧ win0_3.index t = ![t.val % 7, 0] ∧ win0_4.index t = ![t.val % 7 + 7, 0] ∧ win0_5.index t = ![t.val / 7, t.val % 7]
    ∧ win0_6.index t = ![t.val / 7, 0] := by decide +kernel

theorem t_lt (t : Fin cfg0.N) : t.val < 56 := Nat.lt_of_lt_of_eq t.isLt N_0

theorem iblk0_apply (c : Dev nD) (t : Fin cfg0.N) (a : Fin 28) (g : Fin 89) :
    iblk m c 0 t (ix2 a g) = m ((c : Thread nD τ).loc main_arg3) (ix2 a g) := by
  have ht := t_lt t
  rw [← V_main_arg3 m c]
  obtain ⟨h0, h1, h2, h3, h4, h5, h6⟩ := idx t
  unfold iblk
  generalize V m c = v
  blk_ext [h0]

theorem iblk1_apply (c : Dev nD) (t : Fin cfg0.N) (r : Fin 1024) (q : Fin 11392) :
    iblk m c 1 t (ix2 r q) = V m c main_v0 (ix2 (⟨1024 * (t.val / 7) + r.val, by have := t_lt t; omega⟩ : Fin 8192) q) := by
  have ht := t_lt t
  obtain ⟨h0, h1, h2, h3, h4, h5, h6⟩ := idx t
  unfold iblk
  generalize V m c = v
  blk_ext [h1]

theorem iblk2_apply (c : Dev nD) (t : Fin cfg0.N) (r : Fin 1024) (g : Fin 89) :
    iblk m c 2 t (ix2 r g) = V m c main_v1 (ix2 (⟨1024 * (t.val / 7) + r.val, by have := t_lt t; omega⟩ : Fin 8192) g) := by
  have ht := t_lt t
  obtain ⟨h0, h1, h2, h3, h4, h5, h6⟩ := idx t
  unfold iblk
  generalize V m c = v
  blk_ext [h2]

theorem iblk3_apply (c : Dev nD) (t : Fin cfg0.N) (a : Fin 256) (q : Fin 11392) :
    iblk m c 3 t (ix2 a q) = m ((c : Thread nD τ).loc main_arg2) (ix2 (⟨256 * (t.val % 7) + a.val, by have := t_lt t; omega⟩ : Fin 3584) q) := by
  have ht := t_lt t
  rw [← V_main_arg2 m c]
  obtain ⟨h0, h1, h2, h3, h4, h5, h6⟩ := idx t
  unfold iblk
  generalize V m c = v
  blk_ext [h3]

theorem iblk4_apply (c : Dev nD) (t : Fin cfg0.N) (a : Fin 256) (q : Fin 11392) :
    iblk m c 4 t (ix2 a q) = m ((c : Thread nD τ).loc main_arg2) (ix2 (⟨1792 + (256 * (t.val % 7) + a.val), by have := t_lt t; omega⟩ : Fin 3584) q) := by
  have ht := t_lt t
  rw [← V_main_arg2 m c]
  obtain ⟨h0, h1, h2, h3, h4, h5, h6⟩ := idx t
  unfold iblk
  generalize V m c = v
  blk_ext [h4]

/-- The flattened activations are the argument's, `1024` rows to each of its first axis. -/
theorem V_v0_apply (c : Dev nD) (R : Fin 8192) (q : Fin 11392) :
    V m c main_v0 (ix2 R q) = m ((c : Thread nD τ).loc main_arg0) (ix3 (⟨R.val / 1024, by omega⟩ : Fin 8) (⟨R.val % 1024, by omega⟩ : Fin 1024) q) := by
  entry_read
  pointwise

theorem V_v1_apply (c : Dev nD) (R : Fin 8192) (g : Fin 89) :
    V m c main_v1 (ix2 R g) = m ((c : Thread nD τ).loc main_arg1) (ix3 (⟨R.val / 1024, by omega⟩ : Fin 8) (⟨R.val % 1024, by omega⟩ : Fin 1024) g) := by
  entry_read
  pointwise

/-- Within a row block the activations' block does not change. -/
theorem iblk1_prev (c : Dev nD) (t u : Fin cfg0.N) (h : t.val / 7 = u.val / 7) : iblk m c 1 t = iblk m c 1 u := by
  funext y
  obtain ⟨r, q, rfl⟩ : ∃ (r : Fin 1024) (q : Fin 11392), y = ix2 r q := ⟨y 0, y 1, eq_ix2 (y : S1024x11392.Idx)⟩
  rw [iblk1_apply, iblk1_apply]
  simp only [h]

theorem iblk2_prev (c : Dev nD) (t u : Fin cfg0.N) (h : t.val / 7 = u.val / 7) : iblk m c 2 t = iblk m c 2 u := by
  funext y
  obtain ⟨r, q, rfl⟩ : ∃ (r : Fin 1024) (q : Fin 89), y = ix2 r q := ⟨y 0, y 1, eq_ix2 (y : S1024x89.Idx)⟩
  rw [iblk2_apply, iblk2_apply]
  simp only [h]

end Cert.KernelIdeal.Gen

end
-- ==== Proof.Launch.lean ====
/- The launch: what the buffers and the scratch hold at every grid point, the body's obligation, and the run of the whole
   pipeline. A row block's 14 scale lanes are written two at a time by the 7 points of the row block, the others kept as
   they were found, so of that window it is stated which lanes are done: below `2 n + 2` after point `n`. -/
module

public import proofs.«01_k».proof.Proof.Cases
public import proofs.«01_k».proof.Proof.Blocks
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.Quant

local notation "𝕄" => MT nD τ sig Unit (Elt Ideal) ℕ (UR sig nD τ) ℕ

variable (m : (ℓ : Loc nD τ sig) → Buf (Elt Ideal) ℓ) (ρ : Dev nD → PrngReg)

/-- The scaled activations of a point's row block. -/
def xbAt (c : Dev nD) (t : Fin cfg0.N) : Vec Ideal S1024x11392 .bf16 := xbFun (iblk m c 1 t) (iblk m c 2 t)

/-- The finished accumulator of a point. -/
def accOf (c : Dev nD) (t : Fin cfg0.N) : Vec Ideal S1024x512 .f32 :=
  accAt (xbAt m c t) (iblk m c 0 t) (iblk m c 3 t) (iblk m c 4 t) (t.val % 7) 11392

theorem xbAt_prev (c : Dev nD) (t u : Fin cfg0.N) (h : t.val / 7 = u.val / 7) : xbAt m c t = xbAt m c u := by
  unfold xbAt; rw [iblk1_prev m c t u h, iblk2_prev m c t u h]

/-- The point of row block `i` that writes scale lane `k`. -/
def laneAt (t : Fin cfg0.N) (k : Fin 14) : Fin cfg0.N := ⟨7 * (t.val / 7) + k.val / 2, lt_of_lt_of_eq (b := 56) (by have := t_lt t; omega) N_0.symm⟩

/-- The scale of row `r`, lane `k` of point `t`'s row block. -/
def scaleAt (c : Dev nD) (t : Fin cfg0.N) (r : Fin 1024) (k : Fin 14) : EReal :=
  scaleOf (tOf (gBlk (accOf m c (laneAt t k)) r.val (k.val % 2)))

/-- The scale lanes below `2 n + 2` are done after point `n` of a row block. -/
def lanesDone (c : Dev nD) (t : Fin cfg0.N) (X : Vec Ideal S1024x14 .f32) : Prop :=
  ∀ (r : Fin 1024) (k : Fin 14), k.val < 2 * (t.val % 7) + 2 → X (ix2 r k) = scaleAt m c t r k

/-- A point adds its two lanes to those done before it. -/
theorem lanesDone_step (c : Dev nD) (t : Fin cfg0.N) (X : Vec Ideal S1024x14 .f32)
    (h : ∀ (r : Fin 1024) (k : Fin 14), k.val < 2 * (t.val % 7) → X (ix2 r k) = scaleAt m c t r k) :
    lanesDone m c t (scaleBlk (t.val % 7) (accOf m c t) X) := by
  intro r k hk
  show (if 2 * (t.val % 7) ≤ k.val ∧ k.val < 2 * (t.val % 7) + 2 then scaleOf (tOf (gBlk (accOf m c t) r.val (k.val - 2 * (t.val % 7)))) else X (ix2 r k)) = _
  by_cases hc : 2 * (t.val % 7) ≤ k.val
  · rw [if_pos ⟨hc, hk⟩]
    unfold scaleAt
    have e : laneAt t k = t := Fin.ext (show 7 * (t.val / 7) + k.val / 2 = t.val by omega)
    rw [e, show k.val % 2 = k.val - 2 * (t.val % 7) by omega]
  · rw [if_neg (fun h => hc h.1)]
    exact h r k (by omega)

/-- What is done of the row block's lanes before a point that is not its first. -/
theorem lanesDone_prev (c : Dev nD) (t u : Fin cfg0.N) (hu : u.val + 1 = t.val) (h0 : ¬ t.val % 7 = 0) (X : Vec Ideal S1024x14 .f32)
    (h : lanesDone m c u X) (r : Fin 1024) (k : Fin 14) (hk : k.val < 2 * (t.val % 7)) : X (ix2 r k) = scaleAt m c t r k := by
  rw [h r k (by omega)]
  unfold scaleAt
  have e : laneAt u k = laneAt t k := Fin.ext (show 7 * (u.val / 7) + k.val / 2 = 7 * (t.val / 7) + k.val / 2 by omega)
  rw [e]

/-- The region invariant before position `n`: before the first point the scratch at anything, afterwards the scaled
    activations in the one the kernel carries. -/
def PhiS (c : Dev nD) : (n : ℕ) → n ≤ cfg0.N → sProp 𝕄
  | 0, _ => Pipeline.ΦA spec0 c
  | n + 1, hn => iprop(iprop(owns (c : Thread nD τ) scM0_0 fullShare (xbAt m c ⟨n, hn⟩) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xbAt m c ⟨n, hn⟩) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xbAt m c ⟨n - 1, by omega⟩) ∗ (∃ d, owns (c : Thread nD τ) scM0_1 fullShare d)) ∗ (∃ r, prngReg c r)) := by
  cases n with
  | zero => exact absurd rfl hz
  | succ n => rfl

/-- The invariant hands the scratch over at some contents at any point. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1⟩, Hg⟩
    isplitl [HS0 HS1]
    · isplitl [HS0]
      · iexists _; iexact HS0
      iexact HS1
    iexact Hg

/-- The window held to a predicate: the scales'. -/
def marked0 : Fin 7 → Bool := fun w => w.val == 6

/-- What the body leaves in it. -/
def Rl (c : Dev nD) (w : Fin cfg0.W) (t : Fin cfg0.N) : ((cfg0.win w).block.Idx → Elt Ideal (cfg0.win w).elt) → Prop :=
  match w with
  | ⟨6, _⟩ => fun X => lanesDone m c t X
  | ⟨0, _⟩ | ⟨1, _⟩ | ⟨2, _⟩ | ⟨3, _⟩ | ⟨4, _⟩ | ⟨5, _⟩ => fun _ => True

/-- The proof data of the pipeline on core `c`: the arrays as the region finds them; after the body each input's buffer at
    its block, the codes' at the codes of the finished accumulator, the scales' held to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesBlk (accOf m c t)
    | ⟨6, h⟩ => Pipeline.Dat.unnamed (cfg := cfg0) ⟨6, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesBlk (accOf m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body may find in the scales' buffer at a point that is not its row block's first. -/
theorem finds6 (c : Dev nD) (t : Fin cfg0.N) (h0 : ¬ t.val % 7 = 0) (Y : Vec Ideal S1024x14 .f32)
    (hY : ((dats m 0 c).toRRel marked0 (Rl m c)).Finds 6 t Y) (r : Fin 1024) (k : Fin 14) (hk : k.val < 2 * (t.val % 7)) :
    Y (ix2 r k) = scaleAt m c t r k := by
  have hf : (cfg0.win 6).fetch t = false := (cfg0.win 6).fetch_out rfl t
  have hz : t.val ≠ 0 := by omega
  rw [((dats m 0 c).toRRel marked0 (Rl m c)).finds_of_pos hf hz] at hY
  rcases hY with hfl | hL
  · have := (flush0_6 _).mp hfl
    exfalso
    have e : t.val - 1 + 1 = t.val := by omega
    simp only at this
    omega
  · have hl : lanesDone m c _ Y := (dats m 0 c).toRRel_leaves (w := 6) rfl hL
    exact lanesDone_prev m c t ⟨t.val - 1, by omega⟩ (show t.val - 1 + 1 = t.val by omega) h0 Y hl r k hk

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel marked0 (Rl m c)).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X))

theorem coords1 (t : Fin cfg0.N) : (grid0.coords t 1).val = t.val % 7 := by
  have e1 : (grid0.coords t 1).val = t.val / 1 % 7 := Pipeline.Grid.coords_val t 1 (by decide) rfl
  rw [e1, Nat.div_one]

set_option maxHeartbeats 6400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc m c t]
  have hacc : accAt (xbAt m c t) (iblk m c 0 t) (iblk m c 3 t) (iblk m c 4 t) (grid0.coords t 1).val 11392 = accOf m c t := by
    rw [coords1]; rfl
  by_cases h0 : t.val % 7 = 0
  · refine (BIClass.sep_mono (PhiS_any m c t.val _) .rfl).trans ?_
    show (_ : sProp 𝕄) ⊢ _
    rw [PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%Y, %hY, H6⟩⟩
    iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) Y Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    rw [show xbFun (iblk m c 1 t) (iblk m c 2 t) = xbAt m c t from rfl, hacc, coords1]
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap; · iexact H6
    ipureintro
    exact lanesDone_step m c t Y (fun r k hk => absurd hk (by omega))
  · have hz : t.val ≠ 0 := by omega
    rw [PhiS_pos m c _ _ hz, xbAt_prev m c ⟨t.val - 1, by omega⟩ t (show (t.val - 1) / 7 = t.val / 7 by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%Y, %hY, H6⟩⟩
    iapply (run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (xbAt m c t) Y Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    rw [hacc, coords1]
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap; · iexact H6
    ipureintro
    exact lanesDone_step m c t Y (fun r k hk => finds6 m c t h0 Y hY r k hk)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation, at every point. -/
theorem body_obligation (c : Dev nD) : BodyObligationRel (dats m 0 c) (defs₀ (F := Ideal)) Variants.none () Set.univ marked0 (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back at some contents. -/
theorem hout (c : Dev nD) : (dats m 0 c).Φ (Fin.last cfg0.N) ⊢ Pipeline.ΦA spec0 c := PhiS_any m c (Fin.last cfg0.N).val (Nat.le_of_lt_succ (Fin.last cfg0.N).isLt)

/-- The proof data as the launch takes them: the scales' window held to its predicate. -/
abbrev rdats (c : Dev nD) : Pipeline.RDat τ (Elt Ideal) Unit ℕ (UR sig nD τ) ℕ cfg0 c := (dats m 0 c).toRRel marked0 (Rl m c)

set_option backward.isDefEq.respectTransparency.types false in
/-- The run: every execution ends, with the arrays as the proof data say and every semaphore counter at zero. -/
theorem run_main_quiescent : θ_run defs (onTc (τ := τ) (main (F := Ideal))) (s₀ m ρ) (fun r => (Pipeline.RDat.FramePost (cfgs 0) (rdats m) (V m)) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (rdats m) (V m)) :=
  (θ_run defs _ _).mono (fun _ h => h.1) (run_main_quiescent m ρ)

/-- The argument arrays end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (rdats m) (A_eq m) (run_main m ρ)

/-- The frame: the arguments unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Values.lean ====
/- What both programs compute, entry by entry, over the four argument arrays as extended reals. -/
module

public import proofs.«01_k».proof.Proof.Quant
public import Idealize.ShloMosaic.Lib.Pointwise

@[expose] public section

noncomputable section

namespace Cert.Quant

open Idealize.ShloMosaic Idealize.ShloMosaic.Tactic

section
variable (x0 : (⟨3, ![8, 1024, 11392]⟩ : Shape).Idx → EReal) (x1 : (⟨3, ![8, 1024, 89]⟩ : Shape).Idx → EReal)
  (x2 : (⟨2, ![3584, 11392]⟩ : Shape).Idx → EReal) (x3 : (⟨2, ![28, 89]⟩ : Shape).Idx → EReal)

/-- The scaled activation of row `R` (of both leading axes together) at position `q`. -/
def xv (R : Fin 8192) (q : Fin 11392) : EReal :=
  x0 (ix3 (⟨R.val / 1024, by omega⟩ : Fin 8) (⟨R.val % 1024, by omega⟩ : Fin 1024) q)
    * x1 (ix3 (⟨R.val / 1024, by omega⟩ : Fin 8) (⟨R.val % 1024, by omega⟩ : Fin 1024) (⟨q.val / 128, by omega⟩ : Fin 89))

/-- The scaled weight of output column `C` at position `q`. -/
def wv (C : Fin 3584) (q : Fin 11392) : EReal :=
  x2 (ix2 C q) * x3 (ix2 (⟨C.val / 128, by omega⟩ : Fin 28) (⟨q.val / 128, by omega⟩ : Fin 89))

/-- The product of the two. -/
def Y (R : Fin 8192) (C : Fin 3584) : EReal := ∑ q : Fin 11392, xv x0 x1 R q * wv x2 x3 C q

/-- The gated activation: the first half of the columns are the gates, the second half the up values. -/
def H (R : Fin 8192) (f : Fin 1792) : EReal :=
  hOf (Y x0 x1 x2 x3 R (⟨f.val, by omega⟩ : Fin 3584)) (Y x0 x1 x2 x3 R (⟨1792 + f.val, by omega⟩ : Fin 3584))

/-- The 128 gated activations of a row's group. -/
def G (R : Fin 8192) (k : Fin 14) : Fin 128 → EReal := fun l =>
  H x0 x1 x2 x3 R (⟨128 * k.val + l.val, by omega⟩ : Fin 1792)

/-- The code of a row's column. -/
def codes (j : (⟨2, ![8192, 1792]⟩ : Shape).Idx) : EReal :=
  codeOf (tOf (G x0 x1 x2 x3 (j 0) (⟨(j 1).val / 128, by have : (j 1).val < 1792 := (j 1).isLt; omega⟩ : Fin 14))) (H x0 x1 x2 x3 (j 0) (j 1))

/-- The scale of a row's group. -/
def scales (j : (⟨2, ![8192, 14]⟩ : Shape).Idx) : EReal := scaleOf (tOf (G x0 x1 x2 x3 (j 0) (j 1)))

end

end Cert.Quant

end
-- ==== Proof.Arrays.lean ====
/- The kernel's two result arrays after the run: every entry is the code, or the scale, of the argument arrays' entries. -/
module

public import proofs.«01_k».proof.Proof.Launch
public import proofs.«01_k».proof.Proof.Values

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window cellOf)
open Cert.Quant

variable (m : (ℓ : Loc nD τ sig) → Buf (Elt Ideal) ℓ) (ρ : Dev nD → PrngReg)

/-- The argument arrays. -/
abbrev a0 (c : Dev nD) : (⟨3, ![8, 1024, 11392]⟩ : Shape).Idx → EReal := m ((c : Thread nD τ).loc main_arg0)
abbrev a1 (c : Dev nD) : (⟨3, ![8, 1024, 89]⟩ : Shape).Idx → EReal := m ((c : Thread nD τ).loc main_arg1)
abbrev a2 (c : Dev nD) : (⟨2, ![3584, 11392]⟩ : Shape).Idx → EReal := m ((c : Thread nD τ).loc main_arg2)
abbrev a3 (c : Dev nD) : (⟨2, ![28, 89]⟩ : Shape).Idx → EReal := m ((c : Thread nD τ).loc main_arg3)

/-- A scaled activation of a point's row block. -/
theorem xbAt_apply (c : Dev nD) (t : Fin cfg0.N) (r : Fin 1024) (R : Fin 8192) (hR : R.val = 1024 * (t.val / 7) + r.val) (q : Fin 11392) :
    xbAt m c t (ix2 r q) = xv (a0 m c) (a1 m c) R q := by
  have ht := t_lt t
  have e : ∀ h, (⟨1024 * (t.val / 7) + r.val, h⟩ : Fin 8192) = R := fun h => Fin.ext hR.symm
  unfold xbAt xv
  rw [xbFun_ix2, rd_of _ r.isLt (show q.val / 128 < 89 by omega), iblk1_apply m c t r q, e, V_v0_apply m c R q]
  refine congrArg₂ (· * ·) rfl ?_
  refine (iblk2_apply m c t r ⟨q.val / 128, by omega⟩).trans ?_
  rw [e, V_v1_apply]

/-- A product of the contraction, at a lane of the gates. -/
theorem term_lo (c : Dev nD) (t : Fin cfg0.N) (r : Fin 1024) (R : Fin 8192) (hR : R.val = 1024 * (t.val / 7) + r.val)
    (l : Fin 256) (C : Fin 3584) (hC : C.val = 256 * (t.val % 7) + l.val) (q : Fin 11392) :
    term (xbAt m c t) (iblk m c 0 t) (iblk m c 3 t) (2 * (t.val % 7)) r.val l.val q.val
      = xv (a0 m c) (a1 m c) R q * wv (a2 m c) (a3 m c) C q := by
  have ht := t_lt t
  unfold term wEnt wv
  have e : ∀ h, (⟨256 * (t.val % 7) + l.val, h⟩ : Fin 3584) = C := fun h => Fin.ext hC.symm
  have e2 : ∀ h h', (⟨2 * (t.val % 7) + l.val / 128, h⟩ : Fin 28) = ⟨C.val / 128, h'⟩ := fun h h' => Fin.ext (by show _ = C.val / 128; simp only []; omega)
  rw [rd_fin, xbAt_apply m c t r R hR, rd_fin, iblk3_apply m c t l q, e,
    rd_of _ (show 2 * (t.val % 7) + l.val / 128 < 28 by omega) (show q.val / 128 < 89 by omega), iblk0_apply, e2]

/-- A product of the contraction, at a lane of the up values. -/
theorem term_hi (c : Dev nD) (t : Fin cfg0.N) (r : Fin 1024) (R : Fin 8192) (hR : R.val = 1024 * (t.val / 7) + r.val)
    (l : Fin 256) (C : Fin 3584) (hC : C.val = 1792 + (256 * (t.val % 7) + l.val)) (q : Fin 11392) :
    term (xbAt m c t) (iblk m c 0 t) (iblk m c 4 t) (14 + 2 * (t.val % 7)) r.val l.val q.val
      = xv (a0 m c) (a1 m c) R q * wv (a2 m c) (a3 m c) C q := by
  have ht := t_lt t
  unfold term wEnt wv
  have e : ∀ h, (⟨1792 + (256 * (t.val % 7) + l.val), h⟩ : Fin 3584) = C := fun h => Fin.ext hC.symm
  have e2 : ∀ h h', (⟨14 + 2 * (t.val % 7) + l.val / 128, h⟩ : Fin 28) = ⟨C.val / 128, h'⟩ := fun h h' => Fin.ext (by show _ = C.val / 128; simp only []; omega)
  rw [rd_fin, xbAt_apply m c t r R hR, rd_fin, iblk4_apply m c t l q, e,
    rd_of _ (show 14 + 2 * (t.val % 7) + l.val / 128 < 28 by omega) (show q.val / 128 < 89 by omega), iblk0_apply, e2]

/-- The accumulator's gate lanes are the product's columns of the point. -/
theorem acc_lo (c : Dev nD) (t : Fin cfg0.N) (r : Fin 1024) (R : Fin 8192) (hR : R.val = 1024 * (t.val / 7) + r.val)
    (l : ℕ) (hl : l < 256) (C : Fin 3584) (hC : C.val = 256 * (t.val % 7) + l) :
    rd (accOf m c t) r.val l = Y (a0 m c) (a1 m c) (a2 m c) (a3 m c) R C := by
  rw [rd_of _ r.isLt (show l < 512 by omega)]
  unfold accOf Y
  rw [show (⟨r.val, r.isLt⟩ : Fin 1024) = r from rfl, accAt_lo (hc := hl), Finset.sum_range]
  exact Finset.sum_congr rfl fun q _ => term_lo m c t r R hR ⟨l, hl⟩ C hC q

/-- The accumulator's up lanes likewise. -/
theorem acc_hi (c : Dev nD) (t : Fin cfg0.N) (r : Fin 1024) (R : Fin 8192) (hR : R.val = 1024 * (t.val / 7) + r.val)
    (l : ℕ) (hl : l < 256) (C : Fin 3584) (hC : C.val = 1792 + (256 * (t.val % 7) + l)) :
    rd (accOf m c t) r.val (256 + l) = Y (a0 m c) (a1 m c) (a2 m c) (a3 m c) R C := by
  rw [rd_of _ r.isLt (show 256 + l < 512 by omega)]
  unfold accOf Y
  rw [show (⟨r.val, r.isLt⟩ : Fin 1024) = r from rfl, accAt_hi (hc := show ¬ 256 + l < 256 by omega), Finset.sum_range]
  refine Finset.sum_congr rfl fun q _ => ?_
  rw [show (⟨256 + l, by omega⟩ : Fin 512).val - 256 = l from Nat.add_sub_cancel_left 256 l]
  exact term_hi m c t r R hR ⟨l, hl⟩ C hC q

/-- The gated activation of a lane of a point. -/
theorem h_acc (c : Dev nD) (t : Fin cfg0.N) (r : Fin 1024) (R : Fin 8192) (hR : R.val = 1024 * (t.val / 7) + r.val)
    (l : ℕ) (hl : l < 256) (f : Fin 1792) (hf : f.val = 256 * (t.val % 7) + l) :
    hOf (rd (accOf m c t) r.val l) (rd (accOf m c t) r.val (256 + l)) = H (a0 m c) (a1 m c) (a2 m c) (a3 m c) R f := by
  unfold H
  rw [acc_lo m c t r R hR l hl ⟨f.val, by omega⟩ hf, acc_hi m c t r R hR l hl ⟨1792 + f.val, by omega⟩ (by show 1792 + f.val = _; rw [hf])]

/-- The group of a point's 128 lanes. -/
theorem g_acc (c : Dev nD) (t : Fin cfg0.N) (r : Fin 1024) (R : Fin 8192) (hR : R.val = 1024 * (t.val / 7) + r.val)
    (j : ℕ) (hj : j < 2) (k : Fin 14) (hk : k.val = 2 * (t.val % 7) + j) :
    gBlk (accOf m c t) r.val j = G (a0 m c) (a1 m c) (a2 m c) (a3 m c) R k := by
  funext l
  unfold gBlk G
  rw [show 256 + 128 * j + l.val = 256 + (128 * j + l.val) by omega]
  exact h_acc m c t r R hR (128 * j + l.val) (by omega) _ (by show 128 * k.val + l.val = _; omega)

/-- The codes' array, whatever the scales' buffers held. -/
theorem codes_arr (c : Dev nD) (after : (w' : Fin cfg0.W) → Fin cfg0.N → (cfg0.win w').block.Idx → Elt Ideal (cfg0.win w').elt)
    (ha : ∀ t, after 5 t = codesBlk (accOf m c t)) :
    ((rdats m c).withAfter after).arrAt 5 cfg0.N = (codes (a0 m c) (a1 m c) (a2 m c) (a3 m c) : Buf (Elt Ideal) ((c : Thread nD τ).loc main_v2_0)) := by
  refine Dat.arrAt_eq_of_covers _ 5 _ (by decide +kernel) fun t hf y => ?_
  obtain ⟨h0, h1, h2, h3, h4, h5, h6⟩ := idx t
  have ht := t_lt t
  blk_simp
  rw [Pipeline.RDat.withAfter_after, ha]
  obtain ⟨r, l, rfl⟩ : ∃ (r : Fin 1024) (l : Fin 256), y = ix2 r l := ⟨y 0, y 1, eq_ix2 (y : S1024x256.Idx)⟩
  have e : ((win0_5.blk t).view.emb (ix2 r l) : S8192x1792.Idx) = ix2 (⟨1024 * (t.val / 7) + r.val, by omega⟩ : Fin 8192) (⟨256 * (t.val % 7) + l.val, by omega⟩ : Fin 1792) := by
    blk_ext [h5]
  refine Eq.trans ?_ (congrArg (codes (a0 m c) (a1 m c) (a2 m c) (a3 m c)) e).symm
  show codeOf (tOf (gBlk (accOf m c t) r.val (l.val / 128))) (hOf (rd (accOf m c t) r.val l.val) (rd (accOf m c t) r.val (256 + l.val)))
    = codeOf (tOf (G _ _ _ _ (⟨1024 * (t.val / 7) + r.val, _⟩ : Fin 8192) (⟨(256 * (t.val % 7) + l.val) / 128, _⟩ : Fin 14))) (H _ _ _ _ (⟨1024 * (t.val / 7) + r.val, _⟩ : Fin 8192) (⟨256 * (t.val % 7) + l.val, _⟩ : Fin 1792))
  rw [← h_acc m c t r _ rfl l.val l.isLt _ rfl, ← g_acc m c t r _ rfl (l.val / 128) (by omega) _ (by show (256 * (t.val % 7) + l.val) / 128 = _; omega)]

/-- The scales' array, where each row block's last point left all its lanes. -/
theorem scales_arr (c : Dev nD) (after : (w' : Fin cfg0.W) → Fin cfg0.N → (cfg0.win w').block.Idx → Elt Ideal (cfg0.win w').elt)
    (ha : ∀ t, (cfg0.win 6).flush t = true → lanesDone m c t (after 6 t)) :
    ((rdats m c).withAfter after).arrAt 6 cfg0.N = (scales (a0 m c) (a1 m c) (a2 m c) (a3 m c) : Buf (Elt Ideal) ((c : Thread nD τ).loc main_v2_1)) := by
  refine Dat.arrAt_eq_of_covers _ 6 _ (by decide +kernel) fun t hf y => ?_
  obtain ⟨h0, h1, h2, h3, h4, h5, h6⟩ := idx t
  have ht := t_lt t
  have h7 := (flush0_6 t).mp hf
  have hL := ha t hf
  blk_simp
  rw [Pipeline.RDat.withAfter_after]
  obtain ⟨r, k, rfl⟩ : ∃ (r : Fin 1024) (k : Fin 14), y = ix2 r k := ⟨y 0, y 1, eq_ix2 (y : S1024x14.Idx)⟩
  have e : ((win0_6.blk t).view.emb (ix2 r k) : S8192x14.Idx) = ix2 (⟨1024 * (t.val / 7) + r.val, by omega⟩ : Fin 8192) k := by
    blk_ext [h6]
  refine Eq.trans ?_ (congrArg (scales (a0 m c) (a1 m c) (a2 m c) (a3 m c)) e).symm
  refine (hL r k (by omega)).trans ?_
  show scaleOf (tOf (gBlk (accOf m c (laneAt t k)) r.val (k.val % 2))) = scaleOf (tOf (G _ _ _ _ (⟨1024 * (t.val / 7) + r.val, _⟩ : Fin 8192) k))
  have hl : (laneAt t k).val = 7 * (t.val / 7) + k.val / 2 := rfl
  rw [g_acc m c (laneAt t k) r ⟨1024 * (t.val / 7) + r.val, by omega⟩ (by show 1024 * (t.val / 7) + r.val = _; rw [hl]; omega) (k.val % 2) (by omega) k (by rw [hl]; omega)]

/-- The run, its two results read off. -/
theorem run_values : θ_run defs (onTc (τ := τ) (main (F := Ideal))) ⟨m, fun _ => 0, ρ⟩ (fun r => ∀ c : Dev nD,
      r.2.mem ((c.tc : Thread nD τ).loc main_v2_0) = (codes (a0 m c) (a1 m c) (a2 m c) (a3 m c) : Buf (Elt Ideal) ((c : Thread nD τ).loc main_v2_0))
      ∧ r.2.mem ((c.tc : Thread nD τ).loc main_v2_1) = (scales (a0 m c) (a1 m c) (a2 m c) (a3 m c) : Buf (Elt Ideal) ((c : Thread nD τ).loc main_v2_1))) := by
  refine (θ_run defs _ _).mono (fun r h c => ?_) (run_main m ρ)
  obtain ⟨after, hL, hA⟩ := Pipeline.RDat.FramePost.exists_exact h c
  refine ⟨(hA 5).trans (codes_arr m c after fun t => ?_), (hA 6).trans (scales_arr m c after fun t hf => ?_)⟩
  · obtain ⟨_, _, hX⟩ := hL 5 t (flush0_5 t)
    rw [(dats m 0 c).toRRel_after_of_eq_false (Rl := Rl m c) (fgt := marked0) (w := 5) rfl] at hX
    exact hX.trans (after0_5 m c t)
  · exact (dats m 0 c).toRRel_leaves (w := 6) rfl (hL 6 t hf)

end Cert.KernelIdeal.Gen

end
-- ==== Proof.QuantEq.lean ====
/- The two quantisers agree: the exponent field found by halving is the one the logarithm gives, so the scale and its
   inverse are the same words. -/
module

public import proofs.«01_k».proof.Proof.Quant

@[expose] public section

noncomputable section

namespace Cert.Quant

open Idealize.ShloMosaic

/-- The word of the exponent field `k`, the rest zero, -/
def fw (k : ℕ) : BitVec 32 := BitVec.ofNat 32 (k * 8388608)

/-- and its float. -/
def pw (k : ℕ) : EReal := Ideal.ofBits FTy.f32 (fw k)

theorem fw_add (a b : ℕ) : fw a + fw b = fw (a + b) := by
  unfold fw; rw [← BitVec.ofNat_add, Nat.add_mul]

theorem fw_fields : ∀ k : Fin 256, ((fw k.val).extractLsb' (8 + 23) 1 == 1#1) = false
    ∧ ((fw k.val).extractLsb' 23 8).toNat = k.val ∧ ((fw k.val).extractLsb' 0 23).toNat = 0 := by decide +kernel

theorem pw_zero : pw 0 = 0 := by
  obtain ⟨h1, h2, h3⟩ := fw_fields 0
  show Ideal.ieee 8 23 (fw 0) = 0
  unfold Ideal.ieee
  simp only [Fin.val_zero] at h1 h2 h3
  simp [h1, h2, h3]

theorem pw_top : pw 255 = ⊤ := by
  obtain ⟨h1, h2, h3⟩ := fw_fields 255
  show Ideal.ieee 8 23 (fw 255) = ⊤
  unfold Ideal.ieee
  simp only [show ((255 : Fin 256) : ℕ) = 255 from rfl] at h1 h2 h3
  simp [h1, h2, h3]

theorem pw_mid (k : ℕ) (h0 : k ≠ 0) (h1 : k < 255) : pw k = (((2 : ℝ) ^ ((k : ℤ) - 127) : ℝ) : EReal) := by
  obtain ⟨g1, g2, g3⟩ := fw_fields ⟨k, by omega⟩
  show Ideal.ieee 8 23 (fw k) = _
  unfold Ideal.ieee
  simp only at g1 g2 g3
  simp only [g1, g2, g3]
  rw [if_neg (by omega), if_neg h0]
  congr 1
  simp only [Bool.false_eq_true, if_false, one_mul, Nat.add_zero]
  push_cast
  rw [show (8388608 : ℝ) = (2 : ℝ) ^ (23 : ℤ) by norm_num, ← zpow_add₀ (by norm_num)]
  congr 1
  norm_num

/-- What the search knows after some halvings: `f` is the word of a field `a` not above `t`, with the field `a + w`, where
    there is one, above. -/
def Inv (t : EReal) (f : BitVec 32) (w : ℕ) : Prop :=
  ∃ a, f = fw a ∧ a + w ≤ 256 ∧ pw a ≤ t ∧ (a + w = 256 ∨ t < pw (a + w))

theorem Inv.step {t : EReal} {f : BitVec 32} {w v : ℕ} (h : Inv t f v) (hv : v = w + w) (hw : 0 < w) : Inv t (step t f (fw w)) w := by
  obtain ⟨a, rfl, h1, h2, h3⟩ := h
  unfold Quant.step
  rw [fw_add]
  show Inv t (if t < pw (a + w) then fw a else fw (a + w)) w
  by_cases hc : t < pw (a + w)
  · rw [if_pos hc]
    exact ⟨a, rfl, by omega, h2, .inr hc⟩
  · rw [if_neg hc]
    refine ⟨a + w, rfl, by omega, not_lt.mp hc, ?_⟩
    rw [show a + w + w = a + v by omega]
    exact h3

/-- The search ends at the greatest field whose float is not above `t`. -/
theorem field_spec (t : EReal) (ht : 0 ≤ t) : ∃ K, K < 256 ∧ field t = fw K ∧ pw K ≤ t ∧ (K = 255 ∨ t < pw (K + 1)) := by
  have i0 : Inv t 0#32 256 := ⟨0, rfl, le_refl _, by rw [pw_zero]; exact ht, .inl rfl⟩
  have i8 : Inv t (field t) 1 :=
    (((((((i0.step (w := 128) rfl (by decide)).step (w := 64) rfl (by decide)).step (w := 32) rfl (by decide)).step (w := 16) rfl
      (by decide)).step (w := 8) rfl (by decide)).step (w := 4) rfl (by decide)).step (w := 2) rfl (by decide)).step (w := 1) rfl (by decide)
  obtain ⟨a, e, h1, h2, h3⟩ := i8
  exact ⟨a, by omega, e, h2, h3.imp_left (by omega)⟩

/-- The reference's threshold: a magnitude below the least normal number counts as zero. -/
def refT (t : EReal) : EReal := if t < Ideal.ofBits FTy.f32 0x00800000#32 then Ideal.ofBits FTy.f32 0x00000000#32 else t

/-- The reference's exponent, by the logarithm. -/
def refE (t : EReal) : BitVec 32 :=
  if t = Ideal.ofBits FTy.f32 0x00000000#32 then 0#32
  else Ideal.fptosi 32 (if t < Ideal.ofBits FTy.f32 0x7F800000#32
    then min (Ideal.liftRound Int.floor (Ideal.div (Ideal.log t) (Ideal.log (Ideal.ofBits FTy.f32 0x40000000#32)))) (Ideal.ofBits FTy.f32 0x42FE0000#32)
    else Ideal.ofBits FTy.f32 0x43000000#32) + 1#32

theorem ofBits_zero : Ideal.ofBits FTy.f32 0x00000000#32 = 0 := pw_zero
theorem ofBits_top : Ideal.ofBits FTy.f32 0x7F800000#32 = ⊤ := pw_top
theorem ofBits_tiny : Ideal.ofBits FTy.f32 0x00800000#32 = pw 1 := rfl
theorem ofBits_two : Ideal.ofBits FTy.f32 0x40000000#32 = ((2 : ℝ) : EReal) := by
  refine (pw_mid 128 (by decide) (by decide)).trans ?_
  norm_num

theorem ofBits_127 : Ideal.ofBits FTy.f32 0x42FE0000#32 = (((127 : ℤ) : ℝ) : EReal) := by
  simp [Ideal.ofBits, Ideal.ieee]
  rw [← EReal.coe_mul]
  norm_num

theorem ofBits_128 : Ideal.ofBits FTy.f32 0x43000000#32 = (((128 : ℤ) : ℝ) : EReal) := by
  refine (pw_mid 134 (by decide) (by decide)).trans ?_
  norm_num

/-- The exponent that goes with field `K`. -/
def expOf (K : ℕ) : BitVec 32 := if K = 0 then 0#32 else BitVec.ofNat 32 K - 126#32

theorem fptosi_int (n : ℤ) (h0 : -200 ≤ n) (h1 : n ≤ 200) : Ideal.fptosi 32 (((n : ℝ)) : EReal) = BitVec.ofInt 32 n := by
  unfold Ideal.fptosi
  congr 1
  show max _ (min _ (if (0 : ℝ) ≤ (n : ℝ) then ⌊(n : ℝ)⌋ else ⌈(n : ℝ)⌉)) = n
  rw [Int.floor_intCast, Int.ceil_intCast, ite_self]
  norm_num
  omega

theorem expOf_ofInt : ∀ K : Fin 256, K.val ≠ 0 → BitVec.ofInt 32 ((K.val : ℤ) - 127) + 1#32 = expOf K.val := by decide +kernel

/-- The floor of the binary logarithm, held to 127, of a finite number of field `K`. -/
theorem floor_log (r : ℝ) (K : ℕ) (h0 : K ≠ 0) (h1 : K < 255) (hl : (2 : ℝ) ^ ((K : ℤ) - 127) ≤ r)
    (hu : K = 254 ∨ r < (2 : ℝ) ^ ((K : ℤ) + 1 - 127)) :
    min ⌊Real.log r * (Real.log 2)⁻¹⌋ 127 = (K : ℤ) - 127 := by
  have hp : (0 : ℝ) < r := lt_of_lt_of_le (by positivity) hl
  have hl2 : (0 : ℝ) < Real.log 2 := Real.log_pos (by norm_num)
  rw [← div_eq_mul_inv]
  have h2 : (((K : ℤ) - 127 : ℤ) : ℝ) ≤ Real.log r / Real.log 2 := by
    rw [le_div_iff₀ hl2, ← Real.log_zpow]
    exact Real.log_le_log (by positivity) hl
  have h3 : (K : ℤ) - 127 ≤ ⌊Real.log r / Real.log 2⌋ := Int.le_floor.mpr h2
  rcases hu with h | h
  · subst h
    exact min_eq_right (by omega)
  · have h4 : Real.log r / Real.log 2 < (((K : ℤ) + 1 - 127 : ℤ) : ℝ) := by
      rw [div_lt_iff₀ hl2, ← Real.log_zpow]
      exact Real.log_lt_log hp h
    have h5 : ⌊Real.log r / Real.log 2⌋ < (K : ℤ) + 1 - 127 := Int.floor_lt.mpr h4
    omega

/-- The reference's exponent is that of the field. -/
theorem refE_eq (t : EReal) (ht : 0 ≤ t) (K : ℕ) (hK : K < 256) (hl : pw K ≤ t) (hu : K = 255 ∨ t < pw (K + 1)) :
    refE (refT t) = expOf K := by
  have p1 : pw 1 = (((2 : ℝ) ^ ((1 : ℤ) - 127) : ℝ) : EReal) := pw_mid 1 (by decide) (by decide)
  by_cases h0 : K = 0
  · subst h0
    have : t < pw 1 := hu.resolve_left (by decide)
    unfold refE refT
    rw [ofBits_tiny, if_pos this, if_pos rfl]
    rfl
  · have pos : (0 : EReal) < pw K := by
      by_cases h255 : K = 255
      · subst h255; rw [pw_top]; exact EReal.zero_lt_top
      · rw [pw_mid K h0 (by omega)]
        exact EReal.coe_pos.mpr (by positivity)
    have h1 : pw 1 ≤ pw K := by
      by_cases h255 : K = 255
      · subst h255; rw [pw_top]; exact le_top
      · rw [p1, pw_mid K h0 (by omega)]
        refine EReal.coe_le_coe_iff.mpr (zpow_le_zpow_right₀ (by norm_num) (by omega))
    have hT : refT t = t := by
      unfold refT
      rw [ofBits_tiny, if_neg (not_lt.mpr (h1.trans hl))]
    have hn0 : t ≠ 0 := (lt_of_lt_of_le pos hl).ne'
    rw [hT]
    unfold refE
    rw [ofBits_zero, if_neg hn0, ofBits_top, ← expOf_ofInt ⟨K, hK⟩ h0]
    congr 1
    by_cases h255 : K = 255
    · subst h255
      have : t = ⊤ := top_le_iff.mp (pw_top ▸ hl)
      subst this
      rw [if_neg (lt_irrefl _), ofBits_128]
      exact fptosi_int 128 (by decide) (by decide)
    · have hlt : t < pw (K + 1) := hu.resolve_left h255
      have htop : t < ⊤ := lt_of_lt_of_le hlt le_top
      rw [if_pos htop]
      have hbot : t ≠ ⊥ := (lt_of_lt_of_le EReal.bot_lt_zero ht).ne'
      lift t to ℝ using ⟨htop.ne, hbot⟩ with r
      rw [pw_mid K h0 (by omega), EReal.coe_le_coe_iff] at hl
      have hp : (0 : ℝ) < r := lt_of_lt_of_le (by positivity) hl
      have hl2 : (0 : ℝ) < Real.log 2 := Real.log_pos (by norm_num)
      have hu' : K = 254 ∨ r < (2 : ℝ) ^ ((K : ℤ) + 1 - 127) := by
        by_cases h254 : K = 254
        · exact .inl h254
        · right
          rw [pw_mid (K + 1) (by omega) (by omega), EReal.coe_lt_coe_iff] at hlt
          exact_mod_cast hlt
      have e := floor_log r K h0 (by omega) hl hu'
      rw [ofBits_two, ofBits_127, Ideal.log_coe, Ideal.log_coe, if_neg (not_le.mpr hp), if_neg (by norm_num)]
      unfold Ideal.div
      rw [if_neg (by exact_mod_cast hl2.ne'), ← EReal.coe_inv, ← EReal.coe_mul]
      show Ideal.fptosi 32 (min (((⌊Real.log r * (Real.log 2)⁻¹⌋ : ℤ) : ℝ) : EReal) _) = _
      rw [← (EReal.coe_strictMono.monotone).map_min, ← Int.cast_min, e]
      exact fptosi_int _ (by omega) (by omega)

theorem words : ∀ K : Fin 256, (expOf K.val + 127#32) * 8388608#32 = (if fw K.val = 0#32 then 1065353216#32 else fw K.val + 8388608#32)
    ∧ (0#32 - expOf K.val + 127#32) * 8388608#32 = 2130706432#32 - (if fw K.val = 0#32 then 1065353216#32 else fw K.val + 8388608#32) := by
  decide +kernel

/-- The reference's scale word is the kernel's, -/
theorem word_ref (t : EReal) (ht : 0 ≤ t) : (refE (refT t) + 127#32) * 8388608#32 = word t := by
  obtain ⟨K, hK, e, hl, hu⟩ := field_spec t ht
  unfold word
  rw [refE_eq t ht K hK hl hu, e]
  exact (words ⟨K, hK⟩).1

/-- and so is its inverse's. -/
theorem word_ref_inv (t : EReal) (ht : 0 ≤ t) : (0#32 - refE (refT t) + 127#32) * 8388608#32 = 2130706432#32 - word t := by
  obtain ⟨K, hK, e, hl, hu⟩ := field_spec t ht
  unfold word
  rw [refE_eq t ht K hK hl hu, e]
  exact (words ⟨K, hK⟩).2

/-- The greatest magnitude of a group over 448 is not negative. -/
theorem tOf_nonneg (v : Fin 128 → EReal) : 0 ≤ tOf v := by
  unfold tOf
  refine mul_nonneg ?_ ?_
  · rw [Finset.le_fold_max]
    right
    refine ⟨0, Finset.mem_univ _, ?_⟩
    show (0 : EReal) ≤ max (v 0) (-(v 0))
    rcases le_total 0 (v 0) with h | h
    · exact le_max_of_le_left h
    · exact le_max_of_le_right (EReal.neg_nonneg.mpr h)
  · simp [Ideal.ofBits, Ideal.ieee]
    norm_cast
    positivity

end Cert.Quant

end
-- ==== Proof.RefGated.lean ====
/- The gated activations that the reference computes, entry by entry. -/
module

public import proofs.«01_k».proof.Proof.QuantEq
public import proofs.«01_k».proof.Proof.Values
public import proofs.«01_k».proof.Proof.Gen.ReferenceIdeal.Skeleton
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Cert.Quant

variable (v0 : Vec Ideal S8x1024x11392 .fp8e4m3) (v1 : Vec Ideal S8x1024x89 .f32) (v2 : Vec Ideal S3584x11392 .fp8e4m3) (v3 : Vec Ideal S28x89 .f32)

/-- The gated activations in groups of 128. -/
theorem pay4_apply (R : Fin 8192) (k : Fin 14) (l : Fin 128) :
    k0_pay4 (F := Ideal) v0 v1 v2 v3 (ix3 R k l) = G v0 v1 v2 v3 R k l := by
  unfold G H hOf Y xv wv
  pointwise [k0_pay4]
  have e1 : ∀ h, (⟨(128 * k.val + l.val) / 128 * 128 + l.val, h⟩ : Fin 3584) = ⟨128 * k.val + l.val, by omega⟩ := fun h => Fin.ext (by show _ = 128 * k.val + l.val; simp only []; omega)
  have e2 : ∀ h, (⟨(1792 + (128 * k.val + l.val)) / 128 * 128 + l.val, h⟩ : Fin 3584) = ⟨1792 + (128 * k.val + l.val), by omega⟩ := fun h => Fin.ext (by show _ = 1792 + (128 * k.val + l.val); simp only []; omega)
  simp only [Nat.mul_comm k.val 128]
  simp only [e1, e2]

end Cert.ReferenceIdeal.Gen

end
-- ==== Proof.RefMax.lean ====
/- The reference's scale exponents, entry by entry. -/
module

public import proofs.«01_k».proof.Proof.QuantEq
public import proofs.«01_k».proof.Proof.Values
public import proofs.«01_k».proof.Proof.Gen.ReferenceIdeal.Skeleton
public import Idealize.ShloMosaic.Lib.Pointwise
public import Idealize.ShloMosaic.PureOps.Ideal.Laws

@[expose] public section

set_option maxRecDepth 16384

noncomputable section

namespace Cert.ReferenceIdeal.Gen

open Idealize.ShloMosaic Idealize.ShloMosaic.TcCoe Idealize.ShloMosaic.Tactic
open Cert.Quant

/-- Every group's greatest magnitude, of gated activations `h`. -/
def redV (h : FVec Ideal S8192x14x128 .f32) : FVec Ideal S8192x14 .f32 :=
  multiReduction .maximumf [2] S8192x14 (absf h) 0xFF800000#32 reduces_S8192x14x128_S8192x14 (.inl rfl) rfl

theorem redV_apply (h : FVec Ideal S8192x14x128 .f32) (R : Fin 8192) (k : Fin 14) :
    redV h (ix2 R k) = Finset.fold max (Ideal.ofBits FTy.f32 0xFF800000#32)
      (fun l : Fin 128 => FloatOps.absf (F := Ideal) (φ := .f32) (h (ix3 R k l))) Finset.univ := by
  refine (Ideal.multiReduction_maximumf_single (absf h) 0xFF800000#32 reduces_S8192x14x128_S8192x14 (.inl rfl) rfl (ix2 R k)).trans ?_
  refine congrArg (fun f => Finset.fold max (Ideal.ofBits FTy.f32 0xFF800000#32) f Finset.univ) (funext fun l => ?_)
  refine congrArg (fun i => FloatOps.absf (F := Ideal) (φ := .f32) (h i)) (funext fun b => ?_)
  fin_cases b <;> rfl

/-- The same over 448, in the shape the scales are computed in. -/
def overV (r : FVec Ideal S8192x14 .f32) : FVec Ideal S8192x14x1 .f32 :=
  mulf (shapeCast S8192x14x1 r shapeCasts_S8192x14_S8192x14x1) (broadcast S8192x14x1 (Scalar.ofBits .f32 0x3B124925#32))

theorem overV_apply (r : FVec Ideal S8192x14 .f32) (R : Fin 8192) (k : Fin 14) (z : Fin 1) :
    overV r (ix3 R k z) = r (ix2 R k) * Ideal.ofBits FTy.f32 0x3B124925#32 := by
  pointwise [overV]

theorem maxV_apply (h : FVec Ideal S8192x14x128 .f32) (R : Fin 8192) (k : Fin 14) (z : Fin 1) :
    overV (redV h) (ix3 R k z) = tOf (fun l => h (ix3 R k l)) := by
  rw [overV_apply, redV_apply]
  unfold tOf
  exact rfl

end Cert.ReferenceIdeal.Gen

end
-- ==== Proof.RefExp.lean ====
/- The reference's scale exponents, entry by entry. -/
module

public import proofs.«01_k».proof.Proof.QuantEq
public import proofs.«01_k».proof.Proof.Values
public import proofs.«01_k».proof.Proof.Gen.ReferenceIdeal.Skeleton
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Cert.Quant

/-- The greatest magnitude with the threshold. -/
def thrV (t : FVec Ideal S8192x14x1 .f32) : FVec Ideal S8192x14x1 .f32 :=
  select (cmpf .olt t (broadcast S8192x14x1 (Scalar.ofBits .f32 0x00800000#32))) (broadcast S8192x14x1 (Scalar.ofBits .f32 0x00000000#32)) t

theorem thrV_apply (t : FVec Ideal S8192x14x1 .f32) (R : Fin 8192) (k : Fin 14) (z : Fin 1) :
    thrV t (ix3 R k z) = refT (t (ix3 R k z)) := by
  pointwise [thrV, refT]

/-- The exponents. -/
def expV (t : FVec Ideal S8192x14x1 .f32) : IVec S8192x14x1 32 :=
  k0_pay1 t (cmpf .olt t (broadcast S8192x14x1 (Scalar.ofBits .f32 0x7F800000#32)))
    (floor (divf (log t) (log (broadcast S8192x14x1 (Scalar.ofBits .f32 0x40000000#32))))) (broadcast S8192x14x1 (Scalar.ofBits .f32 0x42FE0000#32))

theorem expV_apply (t : FVec Ideal S8192x14x1 .f32) (R : Fin 8192) (k : Fin 14) (z : Fin 1) :
    expV t (ix3 R k z) = refE (t (ix3 R k z)) := by
  pointwise [expV, k0_pay1, refE]
  rfl

end Cert.ReferenceIdeal.Gen

end
-- ==== Proof.RefStores.lean ====
/- The reference's codes and scales from its exponents, entry by entry. -/
module

public import proofs.«01_k».proof.Proof.QuantEq
public import proofs.«01_k».proof.Proof.Values
public import proofs.«01_k».proof.Proof.Gen.ReferenceIdeal.Skeleton
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Cert.Quant

variable (w : FVec Ideal S8192x14x128 .f32) (a : FVec Ideal S8192x14x1 .f32) (b : IVec S8192x14x1 1) (c d : FVec Ideal S8192x14x1 .f32)

/-- A code from its group's exponent. -/
theorem pay2_apply (R : Fin 8192) (f : Fin 1792) (E : BitVec 32) (hE : k0_pay1 a b c d (ix3 R ⟨f.val / 128, by omega⟩ 0) = E) :
    k0_pay2 (F := Ideal) w a b c d (ix2 R f) = min (Ideal.ofBits FTy.f32 0x43E00000#32) (max (Ideal.ofBits FTy.f32 0xC3E00000#32)
      (w (ix3 R ⟨f.val / 128, by omega⟩ ⟨f.val % 128, by omega⟩) * Ideal.ofBits FTy.f32 ((0#32 - E + 127#32) * 8388608#32))) := by
  unfold k0_pay2
  revert hE
  generalize k0_pay1 a b c d = e
  intro hE
  pointwise
  rw [hE]
  rfl

/-- A scale from its exponent. -/
theorem pay3_apply (R : Fin 8192) (k : Fin 14) (E : BitVec 32) (hE : k0_pay1 a b c d (ix3 R k 0) = E) :
    k0_pay3 (F := Ideal) a b c d (ix2 R k) = Ideal.ofBits FTy.f32 ((E + 127#32) * 8388608#32) := by
  unfold k0_pay3
  revert hE
  generalize k0_pay1 a b c d = e
  intro hE
  pointwise
  rw [hE]
  rfl

end Cert.ReferenceIdeal.Gen

end
-- ==== Proof.RefArrays.lean ====
/- The reference's two result arrays after its run: every entry is the code, or the scale, of the argument arrays' entries. -/
module

public import proofs.«01_k».proof.Proof.RefGated
public import proofs.«01_k».proof.Proof.RefMax
public import proofs.«01_k».proof.Proof.RefExp
public import proofs.«01_k».proof.Proof.RefStores
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.Sem
open Idealize.ShloMosaic.Pipeline (Dat Cfg Window cellOf)
open Cert.Quant

section Payloads
variable (v0 : Vec Ideal S8x1024x11392 .fp8e4m3) (v1 : Vec Ideal S8x1024x89 .f32) (v2 : Vec Ideal S3584x11392 .fp8e4m3) (v3 : Vec Ideal S28x89 .f32)

theorem pay5_eq : k0_pay5 (F := Ideal) v0 v1 v2 v3 = thrV (overV (redV (k0_pay4 v0 v1 v2 v3))) := by
  unfold k0_pay5
  generalize k0_pay4 (F := Ideal) v0 v1 v2 v3 = h
  rfl

theorem pay1_eq : k0_pay1 (F := Ideal) (k0_pay5 v0 v1 v2 v3) (k0_pay6 v0 v1 v2 v3) (k0_pay7 v0 v1 v2 v3) k0_pay8 = expV (k0_pay5 v0 v1 v2 v3) := by
  unfold k0_pay6 k0_pay7 k0_pay8
  generalize k0_pay5 (F := Ideal) v0 v1 v2 v3 = h
  rfl

/-- A group's exponent. -/
theorem exp_apply (R : Fin 8192) (k : Fin 14) (z : Fin 1) :
    k0_pay1 (F := Ideal) (k0_pay5 v0 v1 v2 v3) (k0_pay6 v0 v1 v2 v3) (k0_pay7 v0 v1 v2 v3) k0_pay8 (ix3 R k z) = refE (refT (tOf (G v0 v1 v2 v3 R k))) := by
  rw [pay1_eq, expV_apply, pay5_eq, thrV_apply, maxV_apply]
  simp only [pay4_apply]

/-- What the reference stores as codes. -/
theorem codes_apply (R : Fin 8192) (f : Fin 1792) :
    k0_pay2 (F := Ideal) (k0_pay4 v0 v1 v2 v3) (k0_pay5 v0 v1 v2 v3) (k0_pay6 v0 v1 v2 v3) (k0_pay7 v0 v1 v2 v3) k0_pay8 (ix2 R f) = codes v0 v1 v2 v3 (ix2 R f) := by
  rw [pay2_apply _ _ _ _ _ R f _ (exp_apply v0 v1 v2 v3 R _ 0), pay4_apply, word_ref_inv _ (tOf_nonneg _)]
  unfold codes codeOf
  have e : G v0 v1 v2 v3 R ⟨f.val / 128, by omega⟩ ⟨f.val % 128, by omega⟩ = H v0 v1 v2 v3 R f := by
    unfold G
    exact congrArg (H v0 v1 v2 v3 R) (Fin.ext (by show 128 * (f.val / 128) + f.val % 128 = f.val; omega))
  rw [e]
  rfl

/-- What the reference stores as scales. -/
theorem scales_apply (R : Fin 8192) (k : Fin 14) :
    k0_pay3 (F := Ideal) (k0_pay5 v0 v1 v2 v3) (k0_pay6 v0 v1 v2 v3) (k0_pay7 v0 v1 v2 v3) k0_pay8 (ix2 R k) = scales v0 v1 v2 v3 (ix2 R k) := by
  rw [pay3_apply _ _ _ _ R k _ (exp_apply v0 v1 v2 v3 R k 0), word_ref _ (tOf_nonneg _)]
  rfl

theorem out4_eq : out0_4 (F := Ideal) v0 v1 v2 v3 = codes v0 v1 v2 v3 := by
  unfold_out out0_4
  have e0 : View.ld v0 r0_0 = v0 := View.ld_unit_lit _ v0 (by intro a; fin_cases a <;> rfl)
  have e1 : View.ld v1 r0_1 = v1 := View.ld_unit_lit _ v1 (by intro a; fin_cases a <;> rfl)
  have e2 : View.ld v2 r0_2 = v2 := View.ld_unit_lit _ v2 (by intro a; fin_cases a <;> rfl)
  have e3 : View.ld v3 r0_3 = v3 := View.ld_unit_lit _ v3 (by intro a; fin_cases a <;> rfl)
  rw [e0, e1, e2, e3]
  refine (View.canon_cons_unit_lit _ _ _ (by intro a; fin_cases a <;> rfl)).trans ?_
  funext y
  obtain ⟨R, f, rfl⟩ : ∃ (R : Fin 8192) (f : Fin 1792), y = ix2 R f := ⟨y 0, y 1, eq_ix2 (y : S8192x1792.Idx)⟩
  exact codes_apply v0 v1 v2 v3 R f

theorem out5_eq : out0_5 (F := Ideal) v0 v1 v2 v3 = scales v0 v1 v2 v3 := by
  unfold_out out0_5
  have e0 : View.ld v0 r0_0 = v0 := View.ld_unit_lit _ v0 (by intro a; fin_cases a <;> rfl)
  have e1 : View.ld v1 r0_1 = v1 := View.ld_unit_lit _ v1 (by intro a; fin_cases a <;> rfl)
  have e2 : View.ld v2 r0_2 = v2 := View.ld_unit_lit _ v2 (by intro a; fin_cases a <;> rfl)
  have e3 : View.ld v3 r0_3 = v3 := View.ld_unit_lit _ v3 (by intro a; fin_cases a <;> rfl)
  rw [e0, e1, e2, e3]
  refine (View.canon_cons_unit_lit _ _ _ (by intro a; fin_cases a <;> rfl)).trans ?_
  funext y
  obtain ⟨R, k, rfl⟩ : ∃ (R : Fin 8192) (k : Fin 14), y = ix2 R k := ⟨y 0, y 1, eq_ix2 (y : S8192x14.Idx)⟩
  exact scales_apply v0 v1 v2 v3 R k

end Payloads

variable (m : (ℓ : Loc nD τ sig) → Buf (Elt Ideal) ℓ) (ρ : Dev nD → PrngReg)

/-- The argument arrays. -/
abbrev a0 (c : Dev nD) : (⟨3, ![8, 1024, 11392]⟩ : Shape).Idx → EReal := m ((c : Thread nD τ).loc main_arg0)
abbrev a1 (c : Dev nD) : (⟨3, ![8, 1024, 89]⟩ : Shape).Idx → EReal := m ((c : Thread nD τ).loc main_arg1)
abbrev a2 (c : Dev nD) : (⟨2, ![3584, 11392]⟩ : Shape).Idx → EReal := m ((c : Thread nD τ).loc main_arg2)
abbrev a3 (c : Dev nD) : (⟨2, ![28, 89]⟩ : Shape).Idx → EReal := m ((c : Thread nD τ).loc main_arg3)

/-- Every window is at its array's start at the one point. -/
theorem idx : ∀ t : Fin grid0.N, win0_0.index t = ![0, 0, 0] ∧ win0_1.index t = ![0, 0, 0] ∧ win0_2.index t = ![0, 0]
    ∧ win0_3.index t = ![0, 0] ∧ win0_4.index t = ![0, 0] ∧ win0_5.index t = ![0, 0] := by decide +kernel

/-- Each input's block is its whole array. -/
theorem iblk0_eq (c : Dev nD) (t : Fin cfg0.N) : iblk m c 0 t = a0 m c := by
  obtain ⟨h0, h1, h2, h3, h4, h5⟩ := idx t
  funext y
  obtain ⟨p, q, r, rfl⟩ : ∃ (p : Fin 8) (q : Fin 1024) (r : Fin 11392), y = ix3 p q r := ⟨y 0, y 1, y 2, eq_ix3 (y : S8x1024x11392.Idx)⟩
  unfold iblk
  blk_ext [h0]

theorem iblk1_eq (c : Dev nD) (t : Fin cfg0.N) : iblk m c 1 t = a1 m c := by
  obtain ⟨h0, h1, h2, h3, h4, h5⟩ := idx t
  funext y
  obtain ⟨p, q, r, rfl⟩ : ∃ (p : Fin 8) (q : Fin 1024) (r : Fin 89), y = ix3 p q r := ⟨y 0, y 1, y 2, eq_ix3 (y : S8x1024x89.Idx)⟩
  unfold iblk
  blk_ext [h1]

theorem iblk2_eq (c : Dev nD) (t : Fin cfg0.N) : iblk m c 2 t = a2 m c := by
  obtain ⟨h0, h1, h2, h3, h4, h5⟩ := idx t
  funext y
  obtain ⟨p, q, rfl⟩ : ∃ (p : Fin 3584) (q : Fin 11392), y = ix2 p q := ⟨y 0, y 1, eq_ix2 (y : S3584x11392.Idx)⟩
  unfold iblk
  blk_ext [h2]

theorem iblk3_eq (c : Dev nD) (t : Fin cfg0.N) : iblk m c 3 t = a3 m c := by
  obtain ⟨h0, h1, h2, h3, h4, h5⟩ := idx t
  funext y
  obtain ⟨p, q, rfl⟩ : ∃ (p : Fin 28) (q : Fin 89), y = ix2 p q := ⟨y 0, y 1, eq_ix2 (y : S28x89.Idx)⟩
  unfold iblk
  blk_ext [h3]

/-- The codes' array after the run. -/
theorem codes_arr (c : Dev nD) :
    (dats m 0 c).arrAt 4 cfg0.N = (codes (a0 m c) (a1 m c) (a2 m c) (a3 m c) : Buf (Elt Ideal) ((c : Thread nD τ).loc main_v0_0)) := by
  refine Dat.arrAt_eq_of_covers _ 4 _ (by decide +kernel) fun t hf y => ?_
  obtain ⟨h0, h1, h2, h3, h4, h5⟩ := idx t
  blk_simp
  rw [after0_4, iblk0_eq, iblk1_eq, iblk2_eq, iblk3_eq, out4_eq]
  generalize codes (a0 m c) (a1 m c) (a2 m c) (a3 m c) = v
  obtain ⟨p, q, rfl⟩ : ∃ (p : Fin 8192) (q : Fin 1792), y = ix2 p q := ⟨y 0, y 1, eq_ix2 (y : S8192x1792.Idx)⟩
  have e : ((win0_4.blk t).view.emb (ix2 p q) : S8192x1792.Idx) = ix2 p q := by
    blk_ext [h4]
  exact (congrArg v e).symm

/-- The scales' array after the run. -/
theorem scales_arr (c : Dev nD) :
    (dats m 0 c).arrAt 5 cfg0.N = (scales (a0 m c) (a1 m c) (a2 m c) (a3 m c) : Buf (Elt Ideal) ((c : Thread nD τ).loc main_v0_1)) := by
  refine Dat.arrAt_eq_of_covers _ 5 _ (by decide +kernel) fun t hf y => ?_
  obtain ⟨h0, h1, h2, h3, h4, h5⟩ := idx t
  blk_simp
  rw [after0_5, iblk0_eq, iblk1_eq, iblk2_eq, iblk3_eq, out5_eq]
  generalize scales (a0 m c) (a1 m c) (a2 m c) (a3 m c) = v
  obtain ⟨p, q, rfl⟩ : ∃ (p : Fin 8192) (q : Fin 14), y = ix2 p q := ⟨y 0, y 1, eq_ix2 (y : S8192x14.Idx)⟩
  have e : ((win0_5.blk t).view.emb (ix2 p q) : S8192x14.Idx) = ix2 p q := by
    blk_ext [h5]
  exact (congrArg v e).symm

/-- The run, its two results read off. -/
theorem run_values : θ_run defs (onTc (τ := τ) (main (F := Ideal))) ⟨m, fun _ => 0, ρ⟩ (fun r => ∀ c : Dev nD,
      r.2.mem ((c.tc : Thread nD τ).loc main_v0_0) = (codes (a0 m c) (a1 m c) (a2 m c) (a3 m c) : Buf (Elt Ideal) ((c : Thread nD τ).loc main_v0_0))
      ∧ r.2.mem ((c.tc : Thread nD τ).loc main_v0_1) = (scales (a0 m c) (a1 m c) (a2 m c) (a3 m c) : Buf (Elt Ideal) ((c : Thread nD τ).loc main_v0_1))) :=
  (θ_run defs _ _).mono (fun _ h c => ⟨((h c).1 4).trans (codes_arr m c), ((h c).1 5).trans (scales_arr m c)⟩) (run_main m ρ)

end Cert.ReferenceIdeal.Gen

end
-- ==== Proof.lean ====
module

public import proofs.«01_k».proof.Defs
public import proofs.«01_k».proof.Proof.KernelFrame
public import proofs.«01_k».proof.Proof.Arrays
public import proofs.«01_k».proof.Proof.RefArrays
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Quant

/-- Over the extended reals the kernel and the reference leave the same codes and the same scales. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => codes (Cert.KernelIdeal.Gen.a0 m c) (Cert.KernelIdeal.Gen.a1 m c) (Cert.KernelIdeal.Gen.a2 m c) (Cert.KernelIdeal.Gen.a3 m c),
    fun c => scales (Cert.KernelIdeal.Gen.a0 m c) (Cert.KernelIdeal.Gen.a1 m c) (Cert.KernelIdeal.Gen.a2 m c) (Cert.KernelIdeal.Gen.a3 m c), ?_, ?_⟩
  · exact (θ_run _ _ _).mono (fun r h c => ⟨(h.1 c).1, (h.1 c).2, h.2 c⟩)
      (θ_run_and (Cert.KernelIdeal.Gen.run_values m g) (Cert.KernelIdeal.Gen.unchanged m g))
  · refine (θ_run _ _ _).mono (fun r h c => ⟨?_, ?_, h.2 c⟩)
      (θ_run_and (Cert.ReferenceIdeal.Gen.run_values m' g') (Cert.ReferenceIdeal.Gen.unchanged m' g'))
    · refine (h.1 c).1.trans ?_
      obtain ⟨e0, e1, e2, e3⟩ := hm c
      unfold Cert.ReferenceIdeal.Gen.a0 Cert.ReferenceIdeal.Gen.a1 Cert.ReferenceIdeal.Gen.a2 Cert.ReferenceIdeal.Gen.a3
      rw [e0, e1, e2, e3]
    · refine (h.1 c).2.trans ?_
      obtain ⟨e0, e1, e2, e3⟩ := hm c
      unfold Cert.ReferenceIdeal.Gen.a0 Cert.ReferenceIdeal.Gen.a1 Cert.ReferenceIdeal.Gen.a2 Cert.ReferenceIdeal.Gen.a3
      rw [e0, e1, e2, e3]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g,
  trivial, algebraic⟩

end Cert.Proof

end
